-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_in_vocabulary [hPre_finite_in_vocabulary : Cert.Pre_finite_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_vocabulary [hPre_finite_in_vocabulary : Cert.Pre_finite_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_in_vocabulary [hKernelIdeal : Cert.KernelIdeal.Facts] [hPre_finite_in_vocabulary : Cert.Pre_finite_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_vocabulary m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_in_vocabulary [hReferenceIdeal : Cert.ReferenceIdeal.Facts] [hPre_finite_in_vocabulary : Cert.Pre_finite_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "redistributed_minus_confidence" .f32 0xBF666633#32 ((-294893 / 327660 : ℝ) : EReal)
  ∧ IdealRules.named_const.Statement Cert.KernelIdeal.κ "row_entropy" .f32 0xBFAEB1B0#32 (((1 / 10) * (Real.log (129140163 / 109220000000000)) : ℝ) : EReal)
  ∧ IdealRules.named_const.Statement Cert.KernelIdeal.κ "redistributed" .f32 0x364CD000#32 ((1 / 327660 : ℝ) : EReal)

def algebraic_KernelIdeal_ReferenceIdeal_pre_finite_in_vocabulary [hKernelIdeal : Cert.KernelIdeal.Facts] [hReferenceIdeal : Cert.ReferenceIdeal.Facts] [hPre_finite_in_vocabulary : Cert.Pre_finite_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocabulary : Cert.Pre_in_vocabulary.Facts) (hPre_finite_in_vocabulary : Cert.Pre_finite_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_KernelIdeal_pre_finite_in_vocabulary (hKernelIdeal := hKernelIdeal) (hPre_finite_in_vocabulary := hPre_finite_in_vocabulary)
    ∧ quiescent_ReferenceIdeal (hReferenceIdeal := hReferenceIdeal)
    ∧ quiescent_ReferenceIdeal_pre_finite_in_vocabulary (hReferenceIdeal := hReferenceIdeal) (hPre_finite_in_vocabulary := hPre_finite_in_vocabulary)
    ∧ preserves_Kernel_KernelIdeal
    ∧ algebraic_KernelIdeal_ReferenceIdeal_pre_finite_in_vocabulary (hKernelIdeal := hKernelIdeal) (hReferenceIdeal := hReferenceIdeal) (hPre_finite_in_vocabulary := hPre_finite_in_vocabulary)
-- ==== Pre_finite_in_vocabulary.lean ====
abbrev S4096x32768 : Shape := ⟨2, ![4096, 32768]⟩
abbrev S4096 : Shape := ⟨1, ![4096]⟩
abbrev S_ : Shape := ⟨0, ![]⟩

class Facts : Prop where
  bcast_S_S4096x32768 : S_.BroadcastsInDim S4096x32768 (![] : Fin 0 → Fin S4096x32768.rank)
  reducesTo_S4096x32768_S_d0_1 : S4096x32768.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32768 .f32) (main_arg1 : IVec S4096 32) : IVec S_ 1 :=
  let main_v0 : FVec F S4096x32768 .f32 := Host.absf main_arg0
  let main_cst : FVec F S_ .f32 := constant S_ .f32 0x7F800000#32
  let main_v1 : FVec F S4096x32768 .f32 := broadcastInDim S4096x32768 ![] bcast_S_S4096x32768 main_cst
  let main_v2 : IVec S4096x32768 1 := cmpf .olt main_v0 main_v1
  let main_c : IVec S_ 1 := constantI S_ 1 1#1
  let main_v3 : IVec S_ 1 := (fun x v => Host.reduce IntOp.andi x v reducesTo_S4096x32768_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  let main_c_2 : IVec S_ 32 := constantI S_ 32 32768#32
  let main_v8 : IVec S4096 32 := broadcastInDim S4096 ![] bcast_S_S4096 main_c_2
  let main_v9 : IVec S4096 1 := cmpi .slt main_arg1 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v7 main_v10
  main_v11
-- ==== Pre_in_vocabulary.lean ====
abbrev S4096x32768 : Shape := ⟨2, ![4096, 32768]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x32768 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 1 := constantI S_ 1 1#1
  let main_v2 : IVec S_ 1 := (fun x v => Host.reduce IntOp.andi x v reducesTo_S4096_S_d0 h_S_) main_v1 main_c_0
  let main_c_1 : IVec S_ 32 := constantI S_ 32 32768#32
  let main_v3 : IVec S4096 32 := broadcastInDim S4096 ![] bcast_S_S4096 main_c_1
  let main_v4 : IVec S4096 1 := cmpi .slt main_arg1 main_v3
  let main_c_2 : IVec S_ 1 := constantI S_ 1 1#1
  let main_v5 : IVec S_ 1 := (fun x v => Host.reduce IntOp.andi x v reducesTo_S4096_S_d0 h_S_) main_v4 main_c_2
  let main_v6 : IVec S_ 1 := andi main_v2 main_v5
  main_v6
-- ==== Kernel.lean ====
abbrev S4096x32768 : Shape := ⟨2, ![4096, 32768]⟩
abbrev S4096 : Shape := ⟨1, ![4096]⟩
abbrev S32x16 : Shape := ⟨2, ![32, 16]⟩
abbrev S16 : Shape := ⟨1, ![16]⟩
abbrev S128 : Shape := ⟨1, ![128]⟩
abbrev S16x8x128 : Shape := ⟨3, ![16, 8, 128]⟩
abbrev S_ : Shape := ⟨0, ![]⟩
abbrev S1 : Shape := ⟨1, ![1]⟩
abbrev S1x8x128 : Shape := ⟨3, ![1, 8, 128]⟩
abbrev S8x128 : Shape := ⟨2, ![8, 128]⟩
abbrev S1x1x16 : Shape := ⟨3, ![1, 1, 16]⟩
abbrev S1x16 : Shape := ⟨2, ![1, 16]⟩
abbrev S4096x1 : Shape := ⟨2, ![4096, 1]⟩
abbrev S1x1 : Shape := ⟨2, ![1, 1]⟩
abbrev S128x32768 : Shape := ⟨2, ![128, 32768]⟩
abbrev S128x1 : Shape := ⟨2, ![128, 1]⟩
abbrev S1x128x1 : Shape := ⟨3, ![1, 128, 1]⟩
abbrev S1x1x1 : Shape := ⟨3, ![1, 1, 1]⟩
abbrev S1x32x16 : Shape := ⟨3, ![1, 32, 16]⟩

abbrev nBuf : Table → Nat
  | .hbm => 8
  | .local .tc .vmem => 5
  | .local .tc .smem => 3
  | .local .scVector .smem => 1
  | .local .scVector .vmem => 4
  | _ => 0

abbrev bufTy : (tb : Table) → Fin (nBuf tb) → BufTy
  | .hbm, ⟨0, _⟩ => ⟨S4096x32768, .f32⟩
  | .hbm, ⟨1, _⟩ => ⟨S4096, .i32⟩
  | .hbm, ⟨2, _⟩ => ⟨S4096, .f32⟩
  | .hbm, ⟨3, _⟩ => ⟨S32x16, .f32⟩
  | .hbm, ⟨4, _⟩ => ⟨S4096x1, .i32⟩
  | .hbm, ⟨5, _⟩ => ⟨S1x1, .f32⟩
  | .hbm, ⟨6, _⟩ => ⟨S1x1, .f32⟩
  | .hbm, ⟨7, _⟩ => ⟨S_, .f32⟩
  | .local .tc .vmem, ⟨0, _⟩ => ⟨S128x32768, .f32⟩
  | .local .tc .vmem, ⟨1, _⟩ => ⟨S128x32768, .f32⟩
  | .local .tc .vmem, ⟨2, _⟩ => ⟨S128x1, .i32⟩
  | .local .tc .vmem, ⟨3, _⟩ => ⟨S128x1, .i32⟩
  | .local .tc .vmem, ⟨4, _⟩ => ⟨S32x16, .f32⟩
  | .local .tc .smem, ⟨0, _⟩ => ⟨S1x1, .f32⟩
  | .local .tc .smem, ⟨1, _⟩ => ⟨S1x1, .f32⟩
  | .local .tc .smem, ⟨2, _⟩ => ⟨S1x1, .f32⟩
  | .local .scVector .smem, ⟨0, _⟩ => ⟨S16, .i32⟩
  | .local .scVector .vmem, ⟨0, _⟩ => ⟨S128, .f32⟩
  | .local .scVector .vmem, ⟨1, _⟩ => ⟨S16x8x128, .f32⟩
  | .local .scVector .vmem, ⟨2, _⟩ => ⟨S16, .f32⟩
  | .local .scVector .vmem, ⟨3, _⟩ => ⟨S16, .f32⟩
  | _, _ => ⟨S4096x32768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg1_0 : Ref sig .tc := ⟨.vmem, 4, rfl⟩
abbrev cc1_stg2_0 : Ref sig .tc := ⟨.smem, 0, rfl⟩
abbrev cc2_stg0_0 : Ref sig .tc := ⟨.smem, 1, rfl⟩
abbrev cc2_stg2_0 : Ref sig .tc := ⟨.smem, 2, rfl⟩
abbrev cc0_scratch0 : Ref sig .scVector := ⟨.smem, 0, rfl⟩
abbrev cc0_scratch1 : Ref sig .scVector := ⟨.vmem, 0, rfl⟩
abbrev cc0_scratch2 : Ref sig .scVector := ⟨.vmem, 1, rfl⟩
abbrev cc0_scratch3 : Ref sig .scVector := ⟨.vmem, 2, rfl⟩
abbrev cc0_scratch4 : Ref sig .scVector := ⟨.vmem, 3, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc2_sem0_0 : DmaSem sig := 8
abbrev cc2_sem1_0 : DmaSem sig := 9
abbrev cc2_sem2_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  v10
def k0_off2 (k0_t1 : Fin k0_t1_loop.trips) : Fin 1 → Nat :=
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v12 : Index := Scalar.indexCast v11
  ![v12.toNat]
def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v112 : BitVec 32 := Scalar.addi v2 v11
  let c0_i32_21 : BitVec 32 := 0#32
  let v113 : BitVec 32 := Scalar.addi v112 c0_i32_21
  v113
def k0_mult3 (v81 : BitVec 32) : BitVec 32 :=
  let c7_i32_22 : BitVec 32 := 7#32
  let v115 : BitVec 32 := Scalar.shrsi v81 c7_i32_22
  let c7_i32_23 : BitVec 32 := 7#32
  let v116 : BitVec 32 := Scalar.shli v115 c7_i32_23
  v116

def k0_off3 (i : grid0.Coords) (k0_t1 : Fin k0_t1_loop.trips) (v81 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v112 : BitVec 32 := Scalar.addi v2 v11
  let c0_i32_21 : BitVec 32 := 0#32
  let v113 : BitVec 32 := Scalar.addi v112 c0_i32_21
  let v114 : BitVec 32 := v113
  let c7_i32_22 : BitVec 32 := 7#32
  let v115 : BitVec 32 := Scalar.shrsi v81 c7_i32_22
  let c7_i32_23 : BitVec 32 := 7#32
  let v116 : BitVec 32 := Scalar.shli v115 c7_i32_23
  let v117 : BitVec 32 := v116
  ![v114.toNat, v117.toNat]
def k0_mult4 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v124 : BitVec 32 := Scalar.addi v2 v11
  let c0_i32_29 : BitVec 32 := 0#32
  let v125 : BitVec 32 := Scalar.addi v124 c0_i32_29
  v125
def k0_mult5 (v83 : BitVec 32) : BitVec 32 :=
  let c7_i32_30 : BitVec 32 := 7#32
  let v127 : BitVec 32 := Scalar.shrsi v83 c7_i32_30
  let c7_i32_31 : BitVec 32 := 7#32
  let v128 : BitVec 32 := Scalar.shli v127 c7_i32_31
  v128

def k0_off4 (i : grid0.Coords) (k0_t1 : Fin k0_t1_loop.trips) (v83 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v124 : BitVec 32 := Scalar.addi v2 v11
  let c0_i32_29 : BitVec 32 := 0#32
  let v125 : BitVec 32 := Scalar.addi v124 c0_i32_29
  let v126 : BitVec 32 := v125
  let c7_i32_30 : BitVec 32 := 7#32
  let v127 : BitVec 32 := Scalar.shrsi v83 c7_i32_30
  let c7_i32_31 : BitVec 32 := 7#32
  let v128 : BitVec 32 := Scalar.shli v127 c7_i32_31
  let v129 : BitVec 32 := v128
  ![v126.toNat, v129.toNat]
def k0_mult6 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v136 : BitVec 32 := Scalar.addi v2 v11
  let c0_i32_37 : BitVec 32 := 0#32
  let v137 : BitVec 32 := Scalar.addi v136 c0_i32_37
  v137
def k0_mult7 (v85 : BitVec 32) : BitVec 32 :=
  let c7_i32_38 : BitVec 32 := 7#32
  let v139 : BitVec 32 := Scalar.shrsi v85 c7_i32_38
  let c7_i32_39 : BitVec 32 := 7#32
  let v140 : BitVec 32 := Scalar.shli v139 c7_i32_39
  v140

def k0_off5 (i : grid0.Coords) (k0_t1 : Fin k0_t1_loop.trips) (v85 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v136 : BitVec 32 := Scalar.addi v2 v11
  let c0_i32_37 : BitVec 32 := 0#32
  let v137 : BitVec 32 := Scalar.addi v136 c0_i32_37
  let v138 : BitVec 32 := v137
  let c7_i32_38 : BitVec 32 := 7#32
  let v139 : BitVec 32 := Scalar.shrsi v85 c7_i32_38
  let c7_i32_39 : BitVec 32 := 7#32
  let v140 : BitVec 32 := Scalar.shli v139 c7_i32_39
  let v141 : BitVec 32 := v140
  ![v138.toNat, v141.toNat]
def k0_mult8 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v148 : BitVec 32 := Scalar.addi v2 v11
  let c0_i32_45 : BitVec 32 := 0#32
  let v149 : BitVec 32 := Scalar.addi v148 c0_i32_45
  v149
def k0_mult9 (v87 : BitVec 32) : BitVec 32 :=
  let c7_i32_46 : BitVec 32 := 7#32
  let v151 : BitVec 32 := Scalar.shrsi v87 c7_i32_46
  let c7_i32_47 : BitVec 32 := 7#32
  let v152 : BitVec 32 := Scalar.shli v151 c7_i32_47
  v152

def k0_off6 (i : grid0.Coords) (k0_t1 : Fin k0_t1_loop.trips) (v87 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v148 : BitVec 32 := Scalar.addi v2 v11
  let c0_i32_45 : BitVec 32 := 0#32
  let v149 : BitVec 32 := Scalar.addi v148 c0_i32_45
  let v150 : BitVec 32 := v149
  let c7_i32_46 : BitVec 32 := 7#32
  let v151 : BitVec 32 := Scalar.shrsi v87 c7_i32_46
  let c7_i32_47 : BitVec 32 := 7#32
  let v152 : BitVec 32 := Scalar.shli v151 c7_i32_47
  let v153 : BitVec 32 := v152
  ![v150.toNat, v153.toNat]
def k0_mult10 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v160 : BitVec 32 := Scalar.addi v2 v11
  let c0_i32_53 : BitVec 32 := 0#32
  let v161 : BitVec 32 := Scalar.addi v160 c0_i32_53
  v161
def k0_mult11 (v89 : BitVec 32) : BitVec 32 :=
  let c7_i32_54 : BitVec 32 := 7#32
  let v163 : BitVec 32 := Scalar.shrsi v89 c7_i32_54
  let c7_i32_55 : BitVec 32 := 7#32
  let v164 : BitVec 32 := Scalar.shli v163 c7_i32_55
  v164

def k0_off7 (i : grid0.Coords) (k0_t1 : Fin k0_t1_loop.trips) (v89 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v160 : BitVec 32 := Scalar.addi v2 v11
  let c0_i32_53 : BitVec 32 := 0#32
  let v161 : BitVec 32 := Scalar.addi v160 c0_i32_53
  let v162 : BitVec 32 := v161
  let c7_i32_54 : BitVec 32 := 7#32
  let v163 : BitVec 32 := Scalar.shrsi v89 c7_i32_54
  let c7_i32_55 : BitVec 32 := 7#32
  let v164 : BitVec 32 := Scalar.shli v163 c7_i32_55
  let v165 : BitVec 32 := v164
  ![v162.toNat, v165.toNat]
def k0_mult12 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v172 : BitVec 32 := Scalar.addi v2 v11
  let c0_i32_61 : BitVec 32 := 0#32
  let v173 : BitVec 32 := Scalar.addi v172 c0_i32_61
  v173
def k0_mult13 (v91 : BitVec 32) : BitVec 32 :=
  let c7_i32_62 : BitVec 32 := 7#32
  let v175 : BitVec 32 := Scalar.shrsi v91 c7_i32_62
  let c7_i32_63 : BitVec 32 := 7#32
  let v176 : BitVec 32 := Scalar.shli v175 c7_i32_63
  v176

def k0_off8 (i : grid0.Coords) (k0_t1 : Fin k0_t1_loop.trips) (v91 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v172 : BitVec 32 := Scalar.addi v2 v11
  let c0_i32_61 : BitVec 32 := 0#32
  let v173 : BitVec 32 := Scalar.addi v172 c0_i32_61
  let v174 : BitVec 32 := v173
  let c7_i32_62 : BitVec 32 := 7#32
  let v175 : BitVec 32 := Scalar.shrsi v91 c7_i32_62
  let c7_i32_63 : BitVec 32 := 7#32
  let v176 : BitVec 32 := Scalar.shli v175 c7_i32_63
  let v177 : BitVec 32 := v176
  ![v174.toNat, v177.toNat]
def k0_mult14 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v184 : BitVec 32 := Scalar.addi v2 v11
  let c0_i32_69 : BitVec 32 := 0#32
  let v185 : BitVec 32 := Scalar.addi v184 c0_i32_69
  v185
def k0_mult15 (v93 : BitVec 32) : BitVec 32 :=
  let c7_i32_70 : BitVec 32 := 7#32
  let v187 : BitVec 32 := Scalar.shrsi v93 c7_i32_70
  let c7_i32_71 : BitVec 32 := 7#32
  let v188 : BitVec 32 := Scalar.shli v187 c7_i32_71
  v188

def k0_off9 (i : grid0.Coords) (k0_t1 : Fin k0_t1_loop.trips) (v93 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v184 : BitVec 32 := Scalar.addi v2 v11
  let c0_i32_69 : BitVec 32 := 0#32
  let v185 : BitVec 32 := Scalar.addi v184 c0_i32_69
  let v186 : BitVec 32 := v185
  let c7_i32_70 : BitVec 32 := 7#32
  let v187 : BitVec 32 := Scalar.shrsi v93 c7_i32_70
  let c7_i32_71 : BitVec 32 := 7#32
  let v188 : BitVec 32 := Scalar.shli v187 c7_i32_71
  let v189 : BitVec 32 := v188
  ![v186.toNat, v189.toNat]
def k0_mult16 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v196 : BitVec 32 := Scalar.addi v2 v11
  let c0_i32_77 : BitVec 32 := 0#32
  let v197 : BitVec 32 := Scalar.addi v196 c0_i32_77
  v197
def k0_mult17 (v95 : BitVec 32) : BitVec 32 :=
  let c7_i32_78 : BitVec 32 := 7#32
  let v199 : BitVec 32 := Scalar.shrsi v95 c7_i32_78
  let c7_i32_79 : BitVec 32 := 7#32
  let v200 : BitVec 32 := Scalar.shli v199 c7_i32_79
  v200

def k0_off10 (i : grid0.Coords) (k0_t1 : Fin k0_t1_loop.trips) (v95 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v196 : BitVec 32 := Scalar.addi v2 v11
  let c0_i32_77 : BitVec 32 := 0#32
  let v197 : BitVec 32 := Scalar.addi v196 c0_i32_77
  let v198 : BitVec 32 := v197
  let c7_i32_78 : BitVec 32 := 7#32
  let v199 : BitVec 32 := Scalar.shrsi v95 c7_i32_78
  let c7_i32_79 : BitVec 32 := 7#32
  let v200 : BitVec 32 := Scalar.shli v199 c7_i32_79
  let v201 : BitVec 32 := v200
  ![v198.toNat, v201.toNat]
def k0_mult18 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v208 : BitVec 32 := Scalar.addi v2 v11
  let c8_i32_85 : BitVec 32 := 8#32
  let v209 : BitVec 32 := Scalar.addi v208 c8_i32_85
  v209
def k0_mult19 (v97 : BitVec 32) : BitVec 32 :=
  let c7_i32_86 : BitVec 32 := 7#32
  let v211 : BitVec 32 := Scalar.shrsi v97 c7_i32_86
  let c7_i32_87 : BitVec 32 := 7#32
  let v212 : BitVec 32 := Scalar.shli v211 c7_i32_87
  v212

def k0_off11 (i : grid0.Coords) (k0_t1 : Fin k0_t1_loop.trips) (v97 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v208 : BitVec 32 := Scalar.addi v2 v11
  let c8_i32_85 : BitVec 32 := 8#32
  let v209 : BitVec 32 := Scalar.addi v208 c8_i32_85
  let v210 : BitVec 32 := v209
  let c7_i32_86 : BitVec 32 := 7#32
  let v211 : BitVec 32 := Scalar.shrsi v97 c7_i32_86
  let c7_i32_87 : BitVec 32 := 7#32
  let v212 : BitVec 32 := Scalar.shli v211 c7_i32_87
  let v213 : BitVec 32 := v212
  ![v210.toNat, v213.toNat]
def k0_mult20 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v220 : BitVec 32 := Scalar.addi v2 v11
  let c8_i32_93 : BitVec 32 := 8#32
  let v221 : BitVec 32 := Scalar.addi v220 c8_i32_93
  v221
def k0_mult21 (v99 : BitVec 32) : BitVec 32 :=
  let c7_i32_94 : BitVec 32 := 7#32
  let v223 : BitVec 32 := Scalar.shrsi v99 c7_i32_94
  let c7_i32_95 : BitVec 32 := 7#32
  let v224 : BitVec 32 := Scalar.shli v223 c7_i32_95
  v224

def k0_off12 (i : grid0.Coords) (k0_t1 : Fin k0_t1_loop.trips) (v99 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v220 : BitVec 32 := Scalar.addi v2 v11
  let c8_i32_93 : BitVec 32 := 8#32
  let v221 : BitVec 32 := Scalar.addi v220 c8_i32_93
  let v222 : BitVec 32 := v221
  let c7_i32_94 : BitVec 32 := 7#32
  let v223 : BitVec 32 := Scalar.shrsi v99 c7_i32_94
  let c7_i32_95 : BitVec 32 := 7#32
  let v224 : BitVec 32 := Scalar.shli v223 c7_i32_95
  let v225 : BitVec 32 := v224
  ![v222.toNat, v225.toNat]
def k0_mult22 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v232 : BitVec 32 := Scalar.addi v2 v11
  let c8_i32_101 : BitVec 32 := 8#32
  let v233 : BitVec 32 := Scalar.addi v232 c8_i32_101
  v233
def k0_mult23 (v101 : BitVec 32) : BitVec 32 :=
  let c7_i32_102 : BitVec 32 := 7#32
  let v235 : BitVec 32 := Scalar.shrsi v101 c7_i32_102
  let c7_i32_103 : BitVec 32 := 7#32
  let v236 : BitVec 32 := Scalar.shli v235 c7_i32_103
  v236

def k0_off13 (i : grid0.Coords) (k0_t1 : Fin k0_t1_loop.trips) (v101 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v232 : BitVec 32 := Scalar.addi v2 v11
  let c8_i32_101 : BitVec 32 := 8#32
  let v233 : BitVec 32 := Scalar.addi v232 c8_i32_101
  let v234 : BitVec 32 := v233
  let c7_i32_102 : BitVec 32 := 7#32
  let v235 : BitVec 32 := Scalar.shrsi v101 c7_i32_102
  let c7_i32_103 : BitVec 32 := 7#32
  let v236 : BitVec 32 := Scalar.shli v235 c7_i32_103
  let v237 : BitVec 32 := v236
  ![v234.toNat, v237.toNat]
def k0_mult24 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v244 : BitVec 32 := Scalar.addi v2 v11
  let c8_i32_109 : BitVec 32 := 8#32
  let v245 : BitVec 32 := Scalar.addi v244 c8_i32_109
  v245
def k0_mult25 (v103 : BitVec 32) : BitVec 32 :=
  let c7_i32_110 : BitVec 32 := 7#32
  let v247 : BitVec 32 := Scalar.shrsi v103 c7_i32_110
  let c7_i32_111 : BitVec 32 := 7#32
  let v248 : BitVec 32 := Scalar.shli v247 c7_i32_111
  v248

def k0_off14 (i : grid0.Coords) (k0_t1 : Fin k0_t1_loop.trips) (v103 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v244 : BitVec 32 := Scalar.addi v2 v11
  let c8_i32_109 : BitVec 32 := 8#32
  let v245 : BitVec 32 := Scalar.addi v244 c8_i32_109
  let v246 : BitVec 32 := v245
  let c7_i32_110 : BitVec 32 := 7#32
  let v247 : BitVec 32 := Scalar.shrsi v103 c7_i32_110
  let c7_i32_111 : BitVec 32 := 7#32
  let v248 : BitVec 32 := Scalar.shli v247 c7_i32_111
  let v249 : BitVec 32 := v248
  ![v246.toNat, v249.toNat]
def k0_mult26 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v256 : BitVec 32 := Scalar.addi v2 v11
  let c8_i32_117 : BitVec 32 := 8#32
  let v257 : BitVec 32 := Scalar.addi v256 c8_i32_117
  v257
def k0_mult27 (v105 : BitVec 32) : BitVec 32 :=
  let c7_i32_118 : BitVec 32 := 7#32
  let v259 : BitVec 32 := Scalar.shrsi v105 c7_i32_118
  let c7_i32_119 : BitVec 32 := 7#32
  let v260 : BitVec 32 := Scalar.shli v259 c7_i32_119
  v260

def k0_off15 (i : grid0.Coords) (k0_t1 : Fin k0_t1_loop.trips) (v105 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v256 : BitVec 32 := Scalar.addi v2 v11
  let c8_i32_117 : BitVec 32 := 8#32
  let v257 : BitVec 32 := Scalar.addi v256 c8_i32_117
  let v258 : BitVec 32 := v257
  let c7_i32_118 : BitVec 32 := 7#32
  let v259 : BitVec 32 := Scalar.shrsi v105 c7_i32_118
  let c7_i32_119 : BitVec 32 := 7#32
  let v260 : BitVec 32 := Scalar.shli v259 c7_i32_119
  let v261 : BitVec 32 := v260
  ![v258.toNat, v261.toNat]
def k0_mult28 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v268 : BitVec 32 := Scalar.addi v2 v11
  let c8_i32_125 : BitVec 32 := 8#32
  let v269 : BitVec 32 := Scalar.addi v268 c8_i32_125
  v269
def k0_mult29 (v107 : BitVec 32) : BitVec 32 :=
  let c7_i32_126 : BitVec 32 := 7#32
  let v271 : BitVec 32 := Scalar.shrsi v107 c7_i32_126
  let c7_i32_127 : BitVec 32 := 7#32
  let v272 : BitVec 32 := Scalar.shli v271 c7_i32_127
  v272

def k0_off16 (i : grid0.Coords) (k0_t1 : Fin k0_t1_loop.trips) (v107 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v268 : BitVec 32 := Scalar.addi v2 v11
  let c8_i32_125 : BitVec 32 := 8#32
  let v269 : BitVec 32 := Scalar.addi v268 c8_i32_125
  let v270 : BitVec 32 := v269
  let c7_i32_126 : BitVec 32 := 7#32
  let v271 : BitVec 32 := Scalar.shrsi v107 c7_i32_126
  let c7_i32_127 : BitVec 32 := 7#32
  let v272 : BitVec 32 := Scalar.shli v271 c7_i32_127
  let v273 : BitVec 32 := v272
  ![v270.toNat, v273.toNat]
def k0_mult30 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v280 : BitVec 32 := Scalar.addi v2 v11
  let c8_i32_133 : BitVec 32 := 8#32
  let v281 : BitVec 32 := Scalar.addi v280 c8_i32_133
  v281
def k0_mult31 (v109 : BitVec 32) : BitVec 32 :=
  let c7_i32_134 : BitVec 32 := 7#32
  let v283 : BitVec 32 := Scalar.shrsi v109 c7_i32_134
  let c7_i32_135 : BitVec 32 := 7#32
  let v284 : BitVec 32 := Scalar.shli v283 c7_i32_135
  v284

def k0_off17 (i : grid0.Coords) (k0_t1 : Fin k0_t1_loop.trips) (v109 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v280 : BitVec 32 := Scalar.addi v2 v11
  let c8_i32_133 : BitVec 32 := 8#32
  let v281 : BitVec 32 := Scalar.addi v280 c8_i32_133
  let v282 : BitVec 32 := v281
  let c7_i32_134 : BitVec 32 := 7#32
  let v283 : BitVec 32 := Scalar.shrsi v109 c7_i32_134
  let c7_i32_135 : BitVec 32 := 7#32
  let v284 : BitVec 32 := Scalar.shli v283 c7_i32_135
  let v285 : BitVec 32 := v284
  ![v282.toNat, v285.toNat]
def k0_mult32 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v292 : BitVec 32 := Scalar.addi v2 v11
  let c8_i32_141 : BitVec 32 := 8#32
  let v293 : BitVec 32 := Scalar.addi v292 c8_i32_141
  v293
def k0_mult33 (v111 : BitVec 32) : BitVec 32 :=
  let c7_i32_142 : BitVec 32 := 7#32
  let v295 : BitVec 32 := Scalar.shrsi v111 c7_i32_142
  let c7_i32_143 : BitVec 32 := 7#32
  let v296 : BitVec 32 := Scalar.shli v295 c7_i32_143
  v296

def k0_off18 (i : grid0.Coords) (k0_t1 : Fin k0_t1_loop.trips) (v111 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v292 : BitVec 32 := Scalar.addi v2 v11
  let c8_i32_141 : BitVec 32 := 8#32
  let v293 : BitVec 32 := Scalar.addi v292 c8_i32_141
  let v294 : BitVec 32 := v293
  let c7_i32_142 : BitVec 32 := 7#32
  let v295 : BitVec 32 := Scalar.shrsi v111 c7_i32_142
  let c7_i32_143 : BitVec 32 := 7#32
  let v296 : BitVec 32 := Scalar.shli v295 c7_i32_143
  let v297 : BitVec 32 := v296
  ![v294.toNat, v297.toNat]
def k0_off19 (i : grid0.Coords) (k0_t1 : Fin k0_t1_loop.trips) (v81 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v112 : BitVec 32 := Scalar.addi v2 v11
  let c0_i32_21 : BitVec 32 := 0#32
  let v113 : BitVec 32 := Scalar.addi v112 c0_i32_21
  let v114 : BitVec 32 := v113
  let c7_i32_22 : BitVec 32 := 7#32
  let v115 : BitVec 32 := Scalar.shrsi v81 c7_i32_22
  let c7_i32_23 : BitVec 32 := 7#32
  let v116 : BitVec 32 := Scalar.shli v115 c7_i32_23
  let v117 : BitVec 32 := v116
  ![v114.toNat, v117.toNat]
def k0_off20 (i : grid0.Coords) (k0_t1 : Fin k0_t1_loop.trips) (v83 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v124 : BitVec 32 := Scalar.addi v2 v11
  let c0_i32_29 : BitVec 32 := 0#32
  let v125 : BitVec 32 := Scalar.addi v124 c0_i32_29
  let v126 : BitVec 32 := v125
  let c7_i32_30 : BitVec 32 := 7#32
  let v127 : BitVec 32 := Scalar.shrsi v83 c7_i32_30
  let c7_i32_31 : BitVec 32 := 7#32
  let v128 : BitVec 32 := Scalar.shli v127 c7_i32_31
  let v129 : BitVec 32 := v128
  ![v126.toNat, v129.toNat]
def k0_off21 (i : grid0.Coords) (k0_t1 : Fin k0_t1_loop.trips) (v85 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v136 : BitVec 32 := Scalar.addi v2 v11
  let c0_i32_37 : BitVec 32 := 0#32
  let v137 : BitVec 32 := Scalar.addi v136 c0_i32_37
  let v138 : BitVec 32 := v137
  let c7_i32_38 : BitVec 32 := 7#32
  let v139 : BitVec 32 := Scalar.shrsi v85 c7_i32_38
  let c7_i32_39 : BitVec 32 := 7#32
  let v140 : BitVec 32 := Scalar.shli v139 c7_i32_39
  let v141 : BitVec 32 := v140
  ![v138.toNat, v141.toNat]
def k0_off22 (i : grid0.Coords) (k0_t1 : Fin k0_t1_loop.trips) (v87 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v148 : BitVec 32 := Scalar.addi v2 v11
  let c0_i32_45 : BitVec 32 := 0#32
  let v149 : BitVec 32 := Scalar.addi v148 c0_i32_45
  let v150 : BitVec 32 := v149
  let c7_i32_46 : BitVec 32 := 7#32
  let v151 : BitVec 32 := Scalar.shrsi v87 c7_i32_46
  let c7_i32_47 : BitVec 32 := 7#32
  let v152 : BitVec 32 := Scalar.shli v151 c7_i32_47
  let v153 : BitVec 32 := v152
  ![v150.toNat, v153.toNat]
def k0_off23 (i : grid0.Coords) (k0_t1 : Fin k0_t1_loop.trips) (v89 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v160 : BitVec 32 := Scalar.addi v2 v11
  let c0_i32_53 : BitVec 32 := 0#32
  let v161 : BitVec 32 := Scalar.addi v160 c0_i32_53
  let v162 : BitVec 32 := v161
  let c7_i32_54 : BitVec 32 := 7#32
  let v163 : BitVec 32 := Scalar.shrsi v89 c7_i32_54
  let c7_i32_55 : BitVec 32 := 7#32
  let v164 : BitVec 32 := Scalar.shli v163 c7_i32_55
  let v165 : BitVec 32 := v164
  ![v162.toNat, v165.toNat]
def k0_off24 (i : grid0.Coords) (k0_t1 : Fin k0_t1_loop.trips) (v91 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v172 : BitVec 32 := Scalar.addi v2 v11
  let c0_i32_61 : BitVec 32 := 0#32
  let v173 : BitVec 32 := Scalar.addi v172 c0_i32_61
  let v174 : BitVec 32 := v173
  let c7_i32_62 : BitVec 32 := 7#32
  let v175 : BitVec 32 := Scalar.shrsi v91 c7_i32_62
  let c7_i32_63 : BitVec 32 := 7#32
  let v176 : BitVec 32 := Scalar.shli v175 c7_i32_63
  let v177 : BitVec 32 := v176
  ![v174.toNat, v177.toNat]
def k0_off25 (i : grid0.Coords) (k0_t1 : Fin k0_t1_loop.trips) (v93 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v184 : BitVec 32 := Scalar.addi v2 v11
  let c0_i32_69 : BitVec 32 := 0#32
  let v185 : BitVec 32 := Scalar.addi v184 c0_i32_69
  let v186 : BitVec 32 := v185
  let c7_i32_70 : BitVec 32 := 7#32
  let v187 : BitVec 32 := Scalar.shrsi v93 c7_i32_70
  let c7_i32_71 : BitVec 32 := 7#32
  let v188 : BitVec 32 := Scalar.shli v187 c7_i32_71
  let v189 : BitVec 32 := v188
  ![v186.toNat, v189.toNat]
def k0_off26 (i : grid0.Coords) (k0_t1 : Fin k0_t1_loop.trips) (v95 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v196 : BitVec 32 := Scalar.addi v2 v11
  let c0_i32_77 : BitVec 32 := 0#32
  let v197 : BitVec 32 := Scalar.addi v196 c0_i32_77
  let v198 : BitVec 32 := v197
  let c7_i32_78 : BitVec 32 := 7#32
  let v199 : BitVec 32 := Scalar.shrsi v95 c7_i32_78
  let c7_i32_79 : BitVec 32 := 7#32
  let v200 : BitVec 32 := Scalar.shli v199 c7_i32_79
  let v201 : BitVec 32 := v200
  ![v198.toNat, v201.toNat]
def k0_off27 (i : grid0.Coords) (k0_t1 : Fin k0_t1_loop.trips) (v97 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v208 : BitVec 32 := Scalar.addi v2 v11
  let c8_i32_85 : BitVec 32 := 8#32
  let v209 : BitVec 32 := Scalar.addi v208 c8_i32_85
  let v210 : BitVec 32 := v209
  let c7_i32_86 : BitVec 32 := 7#32
  let v211 : BitVec 32 := Scalar.shrsi v97 c7_i32_86
  let c7_i32_87 : BitVec 32 := 7#32
  let v212 : BitVec 32 := Scalar.shli v211 c7_i32_87
  let v213 : BitVec 32 := v212
  ![v210.toNat, v213.toNat]
def k0_off28 (i : grid0.Coords) (k0_t1 : Fin k0_t1_loop.trips) (v99 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v220 : BitVec 32 := Scalar.addi v2 v11
  let c8_i32_93 : BitVec 32 := 8#32
  let v221 : BitVec 32 := Scalar.addi v220 c8_i32_93
  let v222 : BitVec 32 := v221
  let c7_i32_94 : BitVec 32 := 7#32
  let v223 : BitVec 32 := Scalar.shrsi v99 c7_i32_94
  let c7_i32_95 : BitVec 32 := 7#32
  let v224 : BitVec 32 := Scalar.shli v223 c7_i32_95
  let v225 : BitVec 32 := v224
  ![v222.toNat, v225.toNat]
def k0_off29 (i : grid0.Coords) (k0_t1 : Fin k0_t1_loop.trips) (v101 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v232 : BitVec 32 := Scalar.addi v2 v11
  let c8_i32_101 : BitVec 32 := 8#32
  let v233 : BitVec 32 := Scalar.addi v232 c8_i32_101
  let v234 : BitVec 32 := v233
  let c7_i32_102 : BitVec 32 := 7#32
  let v235 : BitVec 32 := Scalar.shrsi v101 c7_i32_102
  let c7_i32_103 : BitVec 32 := 7#32
  let v236 : BitVec 32 := Scalar.shli v235 c7_i32_103
  let v237 : BitVec 32 := v236
  ![v234.toNat, v237.toNat]
def k0_off30 (i : grid0.Coords) (k0_t1 : Fin k0_t1_loop.trips) (v103 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v244 : BitVec 32 := Scalar.addi v2 v11
  let c8_i32_109 : BitVec 32 := 8#32
  let v245 : BitVec 32 := Scalar.addi v244 c8_i32_109
  let v246 : BitVec 32 := v245
  let c7_i32_110 : BitVec 32 := 7#32
  let v247 : BitVec 32 := Scalar.shrsi v103 c7_i32_110
  let c7_i32_111 : BitVec 32 := 7#32
  let v248 : BitVec 32 := Scalar.shli v247 c7_i32_111
  let v249 : BitVec 32 := v248
  ![v246.toNat, v249.toNat]
def k0_off31 (i : grid0.Coords) (k0_t1 : Fin k0_t1_loop.trips) (v105 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v256 : BitVec 32 := Scalar.addi v2 v11
  let c8_i32_117 : BitVec 32 := 8#32
  let v257 : BitVec 32 := Scalar.addi v256 c8_i32_117
  let v258 : BitVec 32 := v257
  let c7_i32_118 : BitVec 32 := 7#32
  let v259 : BitVec 32 := Scalar.shrsi v105 c7_i32_118
  let c7_i32_119 : BitVec 32 := 7#32
  let v260 : BitVec 32 := Scalar.shli v259 c7_i32_119
  let v261 : BitVec 32 := v260
  ![v258.toNat, v261.toNat]
def k0_off32 (i : grid0.Coords) (k0_t1 : Fin k0_t1_loop.trips) (v107 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v268 : BitVec 32 := Scalar.addi v2 v11
  let c8_i32_125 : BitVec 32 := 8#32
  let v269 : BitVec 32 := Scalar.addi v268 c8_i32_125
  let v270 : BitVec 32 := v269
  let c7_i32_126 : BitVec 32 := 7#32
  let v271 : BitVec 32 := Scalar.shrsi v107 c7_i32_126
  let c7_i32_127 : BitVec 32 := 7#32
  let v272 : BitVec 32 := Scalar.shli v271 c7_i32_127
  let v273 : BitVec 32 := v272
  ![v270.toNat, v273.toNat]
def k0_off33 (i : grid0.Coords) (k0_t1 : Fin k0_t1_loop.trips) (v109 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let c1_i32 : BitVec 32 := 1#32
  let arg11 : BitVec 32 := Scf.iv c0_i32 c1_i32 k0_t1
  let c16_i32 : BitVec 32 := 16#32
  let v10 : BitVec 32 := Scalar.muli arg11 c16_i32
  let v11 : BitVec 32 := v10
  let v280 : BitVec 32 := Scalar.addi v2 v11
  let c8_i32_133 : BitVec 32 := 8#32
  let v281 : BitVec 32 := Scalar.addi v280 c8_i32_133
  let v282 : BitVec 32 := v281
  let c7_i32_134 : BitVec 32 := 7#32
  let v283 : BitVec 32 := Scalar.shrsi v109 c7_i32_134
  let c7_i32_135 : BitVec 32 := 7#32
  let v284 : BitVec 32 := Scalar.shli v283 c7_i32_135
  let v285 : BitVec 32 := v284
  ![v282.toNat, v285.toNat]
def k0_off34 (v81 : BitVec 32) : Fin 3 → Nat :=
  let c0_i32_229 : BitVec 32 := 0#32
  let v401 : Index := Scalar.indexCast c0_i32_229
  let c0_i32_230 : BitVec 32 := 0#32
  let v402 : Index := Scalar.indexCast c0_i32_230
  let c112_i32 : BitVec 32 := 112#32
  let v400 : BitVec 32 := Scalar.andi v81 c112_i32
  let v403 : Index := Scalar.indexCast v400
  ![0, 0, v403.toNat]

def k0_chk1 (i : grid0.Coords) (k0_t1 : Fin k0_t1_loop.trips) (v81 : BitVec 32) : Prop :=
  (128 ∣ (k0_mult3 v81).toNat) ∧
  (∀ a, (k0_off3 i k0_t1 v81) a + S8x128.size a ≤ S4096x32768.size a) ∧
  (∀ a, (k0_off19 i k0_t1 v81) a + S8x128.size a ≤ S4096x32768.size a) ∧
  (∀ a, (k0_off34 v81) a + S1x1x16.size a ≤ S16x8x128.size a)
theorem k0_mult3_dvd : ∀ (i : grid0.Coords) (k0_t1 : Fin k0_t1_loop.trips) (v81 : BitVec 32) (k0_hw1 : k0_chk1 i k0_t1 v81), 128 ∣ (k0_mult3 v81).toNat := fun i k0_t1 v81 k0_hw1 => k0_hw1.1
theorem k0_off3_inb : ∀ (i : grid0.Coords) (k0_t1 : Fin k0_t1_loop.trips) (v81 : BitVec 32) (k0_hw1 : k0_chk1 i k0_t1 v81), ∀ a, (k0_off3 i k0_t1 v81) a + S8x128.size a ≤ S4096x32768.size a := fun i k0_t1 v81 k0_hw1 => k0_hw1.2.1
theorem k0_off19_inb : ∀ (i : grid0.Coords) (k0_t1 : Fin k0_t1_loop.trips) (v81 : BitVec 32) (k0_hw1 : k0_chk1 i k0_t1 v81), ∀ a, (k0_off19 i k0_t1 v81) a + S8x128.size a ≤ S4096x32768.size a := fun i k0_t1 v81 k0_hw1 => k0_hw1.2.2.1
theorem k0_off34_inb : ∀ (i : grid0.Coords) (k0_t1 : Fin k0_t1_loop.trips) (v81 : BitVec 32) (k0_hw1 : k0_chk1 i k0_t1 v81), ∀ a, (k0_off34 v81) a + S1x1x16.size a ≤ S16x8x128.size a := fun i k0_t1 v81 k0_hw1 => k0_hw1.2.2.2

def k0_off35 (v83 : BitVec 32) : Fin 3 → Nat :=
  let c1_i32_237 : BitVec 32 := 1#32
  let v419 : Index := Scalar.indexCast c1_i32_237
  let c1_i32_238 : BitVec 32 := 1#32
  let v420 : Index := Scalar.indexCast c1_i32_238
  let c112_i32_236 : BitVec 32 := 112#32
  let v418 : BitVec 32 := Scalar.andi v83 c112_i32_236
  let v421 : Index := Scalar.indexCast v418
  ![1, 1, v421.toNat]

def k0_chk2 (i : grid0.Coords) (k0_t1 : Fin k0_t1_loop.trips) (v83 : BitVec 32) : Prop :=
  (128 ∣ (k0_mult5 v83).toNat) ∧
  (∀ a, (k0_off4 i k0_t1 v83) a + S8x128.size a ≤ S4096x32768.size a) ∧
  (∀ a, (k0_off20 i k0_t1 v83) a + S8x128.size a ≤ S4096x32768.size a) ∧
  (∀ a, (k0_off35 v83) a + S1x1x16.size a ≤ S16x8x128.size a)
theorem k0_mult5_dvd : ∀ (i : grid0.Coords) (k0_t1 : Fin k0_t1_loop.trips) (v83 : BitVec 32) (k0_hw2 : k0_chk2 i k0_t1 v83), 128 ∣ (k0_mult5 v83).toNat := fun i k0_t1 v83 k0_hw2 => k0_hw2.1
theorem k0_off4_inb : ∀ (i : grid0.Coords) (k0_t1 : Fin k0_t1_loop.trips) (v83 : BitVec 32) (k0_hw2 : k0_chk2 i k0_t1 v83), ∀ a, (k0_off4 i k0_t1 v83) a + S8x128.size a ≤ S4096x32768.size a := fun i k0_t1 v83 k0_hw2 => k0_hw2.2.1
theorem k0_off20_inb : ∀ (i : grid0.Coords) (k0_t1 : Fin k0_t1_loop.trips) (v83 : BitVec 32) (k0_hw2 : k0_chk2 i k0_t1 v83), ∀ a, (k0_off20 i k0_t1 v83) a + S8x128.size a ≤ S4096x32768.size a := fun i k0_t1 v83 k0_hw2 => k0_hw2.2.2.1
theorem k0_off35_inb : ∀ (i : grid0.Coords) (k0_t1 : Fin k0_t1_loop.trips) (v83 : BitVec 32) (k0_hw2 : k0_chk2 i k0_t1 v83), ∀ a, (k0_off35 v83) a + S1x1x16.size a ≤ S16x8x128.size a := fun i k0_t1 v83 k0_hw2 => k0_hw2.2.2.2

def k0_off36 (v85 : BitVec 32) : Fin 3 → Nat :=
  let c2_i32_246 : BitVec 32 := 2#32
  let v437 : Index := Scalar.indexCast c2_i32_246
  let c2_i32_247 : BitVec 32 := 2#32
  let v438 : Index := Scalar.indexCast c2_i32_247
  let c112_i32_245 : BitVec 32 := 112#32
  let v436 : BitVec 32 := Scalar.andi v85 c112_i32_245
  let v439 : Index := Scalar.indexCast v436
  ![2, 2, v439.toNat]

def k0_chk3 (i : grid0.Coords) (k0_t1 : Fin k0_t1_loop.trips) (v85 : BitVec 32) : Prop :=
  (128 ∣ (k0_mult7 v85).toNat) ∧
  (∀ a, (k0_off5 i k0_t1 v85) a + S8x128.size a ≤ S4096x32768.size a) ∧
  (∀ a, (k0_off21 i k0_t1 v85) a + S8x128.size a ≤ S4096x32768.size a) ∧
  (∀ a, (k0_off36 v85) a + S1x1x16.size a ≤ S16x8x128.size a)
theorem k0_mult7_dvd : ∀ (i : grid0.Coords) (k0_t1 : Fin k0_t1_loop.trips) (v85 : BitVec 32) (k0_hw3 : k0_chk3 i k0_t1 v85), 128 ∣ (k0_mult7 v85).toNat := fun i k0_t1 v85 k0_hw3 => k0_hw3.1
theorem k0_off5_inb : ∀ (i : grid0.Coords) (k0_t1 : Fin k0_t1_loop.trips) (v85 : BitVec 32) (k0_hw3 : k0_chk3 i k0_t1 v85), ∀ a, (k0_off5 i k0_t1 v85) a + S8x128.size a ≤ S4096x32768.size a := fun i k0_t1 v85 k0_hw3 => k0_hw3.2.1
theorem k0_off21_inb : ∀ (i : grid0.Coords) (k0_t1 : Fin k0_t1_loop.trips) (v85 : BitVec 32) (k0_hw3 : k0_chk3 i k0_t1 v85), ∀ a, (k0_off21 i k0_t1 v85) a + S8x128.size a ≤ S4096x32768.size a := fun i k0_t1 v85 k0_hw3 => k0_hw3.2.2.1
theorem k0_off36_inb : ∀ (i : grid0.Coords) (k0_t1 : Fin k0_t1_loop.trips) (v85 : BitVec 32) (k0_hw3 : k0_chk3 i k0_t1 v85), ∀ a, (k0_off36 v85) a + S1x1x16.size a ≤ S16x8x128.size a := fun i k0_t1 v85 k0_hw3 => k0_hw3.2.2.2

def k0_off37 (v87 : BitVec 32) : Fin 3 → Nat :=
  let c3_i32_255 : BitVec 32 := 3#32
  let v455 : Index := Scalar.indexCast c3_i32_255
  let c3_i32_256 : BitVec 32 := 3#32
  let v456 : Index := Scalar.indexCast c3_i32_256
  let c112_i32_254 : BitVec 32 := 112#32
  let v454 : BitVec 32 := Scalar.andi v87 c112_i32_254
  let v457 : Index := Scalar.indexCast v454
  ![3, 3, v457.toNat]

def k0_chk4 (i : grid0.Coords) (k0_t1 : Fin k0_t1_loop.trips) (v87 : BitVec 32) : Prop :=
  (128 ∣ (k0_mult9 v87).toNat) ∧
  (∀ a, (k0_off6 i k0_t1 v87) a + S8x128.size a ≤ S4096x32768.size a) ∧
  (∀ a, (k0_off22 i k0_t1 v87) a + S8x128.size a ≤ S4096x32768.size a) ∧
  (∀ a, (k0_off37 v87) a + S1x1x16.size a ≤ S16x8x128.size a)
theorem k0_mult9_dvd : ∀ (i : grid0.Coords) (k0_t1 : Fin k0_t1_loop.trips) (v87 : BitVec 32) (k0_hw4 : k0_chk4 i k0_t1 v87), 128 ∣ (k0_mult9 v87).toNat := fun i k0_t1 v87 k0_hw4 => k0_hw4.1
theorem k0_off6_inb : ∀ (i : grid0.Coords) (k0_t1 : Fin k0_t1_loop.trips) (v87 : BitVec 32) (k0_hw4 : k0_chk4 i k0_t1 v87), ∀ a, (k0_off6 i k0_t1 v87) a + S8x128.size a ≤ S4096x32768.size a := fun i k0_t1 v87 k0_hw4 => k0_hw4.2.1
theorem k0_off22_inb : ∀ (i : grid0.Coords) (k0_t1 : Fin k0_t1_loop.trips) (v87 : BitVec 32) (k0_hw4 : k0_chk4 i k0_t1 v87), ∀ a, (k0_off22 i k0_t1 v87) a + S8x128.size a ≤ S4096x32768.size a := fun i k0_t1 v87 k0_hw4 => k0_hw4.2.2.1
theorem k0_off37_inb : ∀ (i : grid0.Coords) (k0_t1 : Fin k0_t1_loop.trips) (v87 : BitVec 32) (k0_hw4 : k0_chk4 i k0_t1 v87), ∀ a, (k0_off37 v87) a + S1x1x16.size a ≤ S16x8x128.size a := fun i k0_t1 v87 k0_hw4 => k0_hw4.2.2.2

def k0_off38 (v89 : BitVec 32) : Fin 3 → Nat :=
  let c4_i32_264 : BitVec 32 := 4#32
  let v473 : Index := Scalar.indexCast c4_i32_264
  let c4_i32_265 : BitVec 32 := 4#32
  let v474 : Index := Scalar.indexCast c4_i32_265
  let c112_i32_263 : BitVec 32 := 112#32
  let v472 : BitVec 32 := Scalar.andi v89 c112_i32_263
  let v475 : Index := Scalar.indexCast v472
  ![4, 4, v475.toNat]

def k0_chk5 (i : grid0.Coords) (k0_t1 : Fin k0_t1_loop.trips) (v89 : BitVec 32) : Prop :=
  (128 ∣ (k0_mult11 v89).toNat) ∧
  (∀ a, (k0_off7 i k0_t1 v89) a + S8x128.size a ≤ S4096x32768.size a) ∧
  (∀ a, (k0_off23 i k0_t1 v89) a + S8x128.size a ≤ S4096x32768.size a) ∧
  (∀ a, (k0_off38 v89) a + S1x1x16.size a ≤ S16x8x128.size a)
theorem k0_mult11_dvd : ∀ (i : grid0.Coords) (k0_t1 : Fin k0_t1_loop.trips) (v89 : BitVec 32) (k0_hw5 : k0_chk5 i k0_t1 v89), 128 ∣ (k0_mult11 v89).toNat := fun i k0_t1 v89 k0_hw5 => k0_hw5.1
theorem k0_off7_inb : ∀ (i : grid0.Coords) (k0_t1 : Fin k0_t1_loop.trips) (v89 : BitVec 32) (k0_hw5 : k0_chk5 i k0_t1 v89), ∀ a, (k0_off7 i k0_t1 v89) a + S8x128.size a ≤ S4096x32768.size a := fun i k0_t1 v89 k0_hw5 => k0_hw5.2.1
theorem k0_off23_inb : ∀ (i : grid0.Coords) (k0_t1 : Fin k0_t1_loop.trips) (v89 : BitVec 32) (k0_hw5 : k0_chk5 i k0_t1 v89), ∀ a, (k0_off23 i k0_t1 v89) a + S8x128.size a ≤ S4096x32768.size a := fun i k0_t1 v89 k0_hw5 => k0_hw5.2.2.1
theorem k0_off38_inb : ∀ (i : grid0.Coords) (k0_t1 : Fin k0_t1_loop.trips) (v89 : BitVec 32) (k0_hw5 : k0_chk5 i k0_t1 v89), ∀ a, (k0_off38 v89) a + S1x1x16.size a ≤ S16x8x128.size a := fun i k0_t1 v89 k0_hw5 => k0_hw5.2.2.2

def k0_off39 (v91 : BitVec 32) : Fin 3 → Nat :=
  let c5_i32_273 : BitVec 32 := 5#32
  let v491 : Index := Scalar.indexCast c5_i32_273
  let c5_i32_274 : BitVec 32 := 5#32
  let v492 : Index := Scalar.indexCast c5_i32_274
  let c112_i32_272 : BitVec 32 := 112#32
  let v490 : BitVec 32 := Scalar.andi v91 c112_i32_272
  let v493 : Index := Scalar.indexCast v490
  ![5, 5, v493.toNat]

def k0_chk6 (i : grid0.Coords) (k0_t1 : Fin k0_t1_loop.trips) (v91 : BitVec 32) : Prop :=
  (128 ∣ (k0_mult13 v91).toNat) ∧
  (∀ a, (k0_off8 i k0_t1 v91) a + S8x128.size a ≤ S4096x32768.size a) ∧
  (∀ a, (k0_off24 i k0_t1 v91) a + S8x128.size a ≤ S4096x32768.size a) ∧
  (∀ a, (k0_off39 v91) a + S1x1x16.size a ≤ S16x8x128.size a)
theorem k0_mult13_dvd : ∀ (i : grid0.Coords) (k0_t1 : Fin k0_t1_loop.trips) (v91 : BitVec 32) (k0_hw6 : k0_chk6 i k0_t1 v91), 128 ∣ (k0_mult13 v91).toNat := fun i k0_t1 v91 k0_hw6 => k0_hw6.1
theorem k0_off8_inb : ∀ (i : grid0.Coords) (k0_t1 : Fin k0_t1_loop.trips) (v91 : BitVec 32) (k0_hw6 : k0_chk6 i k0_t1 v91), ∀ a, (k0_off8 i k0_t1 v91) a + S8x128.size a ≤ S4096x32768.size a := fun i k0_t1 v91 k0_hw6 => k0_hw6.2.1
theorem k0_off24_inb : ∀ (i : grid0.Coords) (k0_t1 : Fin k0_t1_loop.trips) (v91 : BitVec 32) (k0_hw6 : k0_chk6 i k0_t1 v91), ∀ a, (k0_off24 i k0_t1 v91) a + S8x128.size a ≤ S4096x32768.size a := fun i k0_t1 v91 k0_hw6 => k0_hw6.2.2.1
theorem k0_off39_inb : ∀ (i : grid0.Coords) (k0_t1 : Fin k0_t1_loop.trips) (v91 : BitVec 32) (k0_hw6 : k0_chk6 i k0_t1 v91), ∀ a, (k0_off39 v91) a + S1x1x16.size a ≤ S16x8x128.size a := fun i k0_t1 v91 k0_hw6 => k0_hw6.2.2.2

def k0_off40 (v93 : BitVec 32) : Fin 3 → Nat :=
  let c6_i32_282 : BitVec 32 := 6#32
  let v509 : Index := Scalar.indexCast c6_i32_282
  let c6_i32_283 : BitVec 32 := 6#32
  let v510 : Index := Scalar.indexCast c6_i32_283
  let c112_i32_281 : BitVec 32 := 112#32
  let v508 : BitVec 32 := Scalar.andi v93 c112_i32_281
  let v511 : Index := Scalar.indexCast v508
  ![6, 6, v511.toNat]

def k0_chk7 (i : grid0.Coords) (k0_t1 : Fin k0_t1_loop.trips) (v93 : BitVec 32) : Prop :=
  (128 ∣ (k0_mult15 v93).toNat) ∧
  (∀ a, (k0_off9 i k0_t1 v93) a + S8x128.size a ≤ S4096x32768.size a) ∧
  (∀ a, (k0_off25 i k0_t1 v93) a + S8x128.size a ≤ S4096x32768.size a) ∧
  (∀ a, (k0_off40 v93) a + S1x1x16.size a ≤ S16x8x128.size a)
theorem k0_mult15_dvd : ∀ (i : grid0.Coords) (k0_t1 : Fin k0_t1_loop.trips) (v93 : BitVec 32) (k0_hw7 : k0_chk7 i k0_t1 v93), 128 ∣ (k0_mult15 v93).toNat := fun i k0_t1 v93 k0_hw7 => k0_hw7.1
theorem k0_off9_inb : ∀ (i : grid0.Coords) (k0_t1 : Fin k0_t1_loop.trips) (v93 : BitVec 32) (k0_hw7 : k0_chk7 i k0_t1 v93), ∀ a, (k0_off9 i k0_t1 v93) a + S8x128.size a ≤ S4096x32768.size a := fun i k0_t1 v93 k0_hw7 => k0_hw7.2.1
theorem k0_off25_inb : ∀ (i : grid0.Coords) (k0_t1 : Fin k0_t1_loop.trips) (v93 : BitVec 32) (k0_hw7 : k0_chk7 i k0_t1 v93), ∀ a, (k0_off25 i k0_t1 v93) a + S8x128.size a ≤ S4096x32768.size a := fun i k0_t1 v93 k0_hw7 => k0_hw7.2.2.1
theorem k0_off40_inb : ∀ (i : grid0.Coords) (k0_t1 : Fin k0_t1_loop.trips) (v93 : BitVec 32) (k0_hw7 : k0_chk7 i k0_t1 v93), ∀ a, (k0_off40 v93) a + S1x1x16.size a ≤ S16x8x128.size a := fun i k0_t1 v93 k0_hw7 => k0_hw7.2.2.2

def k0_off41 (v95 : BitVec 32) : Fin 3 → Nat :=
  let c7_i32_291 : BitVec 32 := 7#32
  let v527 : Index := Scalar.indexCast c7_i32_291
  let c7_i32_292 : BitVec 32 := 7#32
  let v528 : Index := Scalar.indexCast c7_i32_292
  let c112_i32_290 : BitVec 32 := 112#32
  let v526 : BitVec 32 := Scalar.andi v95 c112_i32_290
  let v529 : Index := Scalar.indexCast v526
  ![7, 7, v529.toNat]

def k0_chk8 (i : grid0.Coords) (k0_t1 : Fin k0_t1_loop.trips) (v95 : BitVec 32) : Prop :=
  (128 ∣ (k0_mult17 v95).toNat) ∧
  (∀ a, (k0_off10 i k0_t1 v95) a + S8x128.size a ≤ S4096x32768.size a) ∧
  (∀ a, (k0_off26 i k0_t1 v95) a + S8x128.size a ≤ S4096x32768.size a) ∧
  (∀ a, (k0_off41 v95) a + S1x1x16.size a ≤ S16x8x128.size a)
theorem k0_mult17_dvd : ∀ (i : grid0.Coords) (k0_t1 : Fin k0_t1_loop.trips) (v95 : BitVec 32) (k0_hw8 : k0_chk8 i k0_t1 v95), 128 ∣ (k0_mult17 v95).toNat := fun i k0_t1 v95 k0_hw8 => k0_hw8.1
theorem k0_off10_inb : ∀ (i : grid0.Coords) (k0_t1 : Fin k0_t1_loop.trips) (v95 : BitVec 32) (k0_hw8 : k0_chk8 i k0_t1 v95), ∀ a, (k0_off10 i k0_t1 v95) a + S8x128.size a ≤ S4096x32768.size a := fun i k0_t1 v95 k0_hw8 => k0_hw8.2.1
theorem k0_off26_inb : ∀ (i : grid0.Coords) (k0_t1 : Fin k0_t1_loop.trips) (v95 : BitVec 32) (k0_hw8 : k0_chk8 i k0_t1 v95), ∀ a, (k0_off26 i k0_t1 v95) a + S8x128.size a ≤ S4096x32768.size a := fun i k0_t1 v95 k0_hw8 => k0_hw8.2.2.1
theorem k0_off41_inb : ∀ (i : grid0.Coords) (k0_t1 : Fin k0_t1_loop.trips) (v95 : BitVec 32) (k0_hw8 : k0_chk8 i k0_t1 v95), ∀ a, (k0_off41 v95) a + S1x1x16.size a ≤ S16x8x128.size a := fun i k0_t1 v95 k0_hw8 => k0_hw8.2.2.2

def k0_off42 (v97 : BitVec 32) : Fin 3 → Nat :=
  let c8_i32_300 : BitVec 32 := 8#32
  let v545 : Index := Scalar.indexCast c8_i32_300
  let c0_i32_301 : BitVec 32 := 0#32
  let v546 : Index := Scalar.indexCast c0_i32_301
  let c112_i32_299 : BitVec 32 := 112#32
  let v544 : BitVec 32 := Scalar.andi v97 c112_i32_299
  let v547 : Index := Scalar.indexCast v544
  ![8, 0, v547.toNat]

def k0_chk9 (i : grid0.Coords) (k0_t1 : Fin k0_t1_loop.trips) (v97 : BitVec 32) : Prop :=
  (128 ∣ (k0_mult19 v97).toNat) ∧
  (∀ a, (k0_off11 i k0_t1 v97) a + S8x128.size a ≤ S4096x32768.size a) ∧
  (∀ a, (k0_off27 i k0_t1 v97) a + S8x128.size a ≤ S4096x32768.size a) ∧
  (∀ a, (k0_off42 v97) a + S1x1x16.size a ≤ S16x8x128.size a)
theorem k0_mult19_dvd : ∀ (i : grid0.Coords) (k0_t1 : Fin k0_t1_loop.trips) (v97 : BitVec 32) (k0_hw9 : k0_chk9 i k0_t1 v97), 128 ∣ (k0_mult19 v97).toNat := fun i k0_t1 v97 k0_hw9 => k0_hw9.1
theorem k0_off11_inb : ∀ (i : grid0.Coords) (k0_t1 : Fin k0_t1_loop.trips) (v97 : BitVec 32) (k0_hw9 : k0_chk9 i k0_t1 v97), ∀ a, (k0_off11 i k0_t1 v97) a + S8x128.size a ≤ S4096x32768.size a := fun i k0_t1 v97 k0_hw9 => k0_hw9.2.1
theorem k0_off27_inb : ∀ (i : grid0.Coords) (k0_t1 : Fin k0_t1_loop.trips) (v97 : BitVec 32) (k0_hw9 : k0_chk9 i k0_t1 v97), ∀ a, (k0_off27 i k0_t1 v97) a + S8x128.size a ≤ S4096x32768.size a := fun i k0_t1 v97 k0_hw9 => k0_hw9.2.2.1
theorem k0_off42_inb : ∀ (i : grid0.Coords) (k0_t1 : Fin k0_t1_loop.trips) (v97 : BitVec 32) (k0_hw9 : k0_chk9 i k0_t1 v97), ∀ a, (k0_off42 v97) a + S1x1x16.size a ≤ S16x8x128.size a := fun i k0_t1 v97 k0_hw9 => k0_hw9.2.2.2

def k0_off43 (v99 : BitVec 32) : Fin 3 → Nat :=
  let c9_i32_309 : BitVec 32 := 9#32
  let v563 : Index := Scalar.indexCast c9_i32_309
  let c1_i32_310 : BitVec 32 := 1#32
  let v564 : Index := Scalar.indexCast c1_i32_310
  let c112_i32_308 : BitVec 32 := 112#32
  let v562 : BitVec 32 := Scalar.andi v99 c112_i32_308
  let v565 : Index := Scalar.indexCast v562
  ![9, 1, v565.toNat]

def k0_chk10 (i : grid0.Coords) (k0_t1 : Fin k0_t1_loop.trips) (v99 : BitVec 32) : Prop :=
  (128 ∣ (k0_mult21 v99).toNat) ∧
  (∀ a, (k0_off12 i k0_t1 v99) a + S8x128.size a ≤ S4096x32768.size a) ∧
  (∀ a, (k0_off28 i k0_t1 v99) a + S8x128.size a ≤ S4096x32768.size a) ∧
  (∀ a, (k0_off43 v99) a + S1x1x16.size a ≤ S16x8x128.size a)
theorem k0_mult21_dvd : ∀ (i : grid0.Coords) (k0_t1 : Fin k0_t1_loop.trips) (v99 : BitVec 32) (k0_hw10 : k0_chk10 i k0_t1 v99), 128 ∣ (k0_mult21 v99).toNat := fun i k0_t1 v99 k0_hw10 => k0_hw10.1
theorem k0_off12_inb : ∀ (i : grid0.Coords) (k0_t1 : Fin k0_t1_loop.trips) (v99 : BitVec 32) (k0_hw10 : k0_chk10 i k0_t1 v99), ∀ a, (k0_off12 i k0_t1 v99) a + S8x128.size a ≤ S4096x32768.size a := fun i k0_t1 v99 k0_hw10 => k0_hw10.2.1
theorem k0_off28_inb : ∀ (i : grid0.Coords) (k0_t1 : Fin k0_t1_loop.trips) (v99 : BitVec 32) (k0_hw10 : k0_chk10 i k0_t1 v99), ∀ a, (k0_off28 i k0_t1 v99) a + S8x128.size a ≤ S4096x32768.size a := fun i k0_t1 v99 k0_hw10 => k0_hw10.2.2.1
theorem k0_off43_inb : ∀ (i : grid0.Coords) (k0_t1 : Fin k0_t1_loop.trips) (v99 : BitVec 32) (k0_hw10 : k0_chk10 i k0_t1 v99), ∀ a, (k0_off43 v99) a + S1x1x16.size a ≤ S16x8x128.size a := fun i k0_t1 v99 k0_hw10 => k0_hw10.2.2.2

def k0_off44 (v101 : BitVec 32) : Fin 3 → Nat :=
  let c10_i32_318 : BitVec 32 := 10#32
  let v581 : Index := Scalar.indexCast c10_i32_318
  let c2_i32_319 : BitVec 32 := 2#32
  let v582 : Index := Scalar.indexCast c2_i32_319
  let c112_i32_317 : BitVec 32 := 112#32
  let v580 : BitVec 32 := Scalar.andi v101 c112_i32_317
  let v583 : Index := Scalar.indexCast v580
  ![10, 2, v583.toNat]

def k0_chk11 (i : grid0.Coords) (k0_t1 : Fin k0_t1_loop.trips) (v101 : BitVec 32) : Prop :=
  (128 ∣ (k0_mult23 v101).toNat) ∧
  (∀ a, (k0_off13 i k0_t1 v101) a + S8x128.size a ≤ S4096x32768.size a) ∧
  (∀ a, (k0_off29 i k0_t1 v101) a + S8x128.size a ≤ S4096x32768.size a) ∧
  (∀ a, (k0_off44 v101) a + S1x1x16.size a ≤ S16x8x128.size a)
theorem k0_mult23_dvd : ∀ (i : grid0.Coords) (k0_t1 : Fin k0_t1_loop.trips) (v101 : BitVec 32) (k0_hw11 : k0_chk11 i k0_t1 v101), 128 ∣ (k0_mult23 v101).toNat := fun i k0_t1 v101 k0_hw11 => k0_hw11.1
theorem k0_off13_inb : ∀ (i : grid0.Coords) (k0_t1 : Fin k0_t1_loop.trips) (v101 : BitVec 32) (k0_hw11 : k0_chk11 i k0_t1 v101), ∀ a, (k0_off13 i k0_t1 v101) a + S8x128.size a ≤ S4096x32768.size a := fun i k0_t1 v101 k0_hw11 => k0_hw11.2.1
theorem k0_off29_inb : ∀ (i : grid0.Coords) (k0_t1 : Fin k0_t1_loop.trips) (v101 : BitVec 32) (k0_hw11 : k0_chk11 i k0_t1 v101), ∀ a, (k0_off29 i k0_t1 v101) a + S8x128.size a ≤ S4096x32768.size a := fun i k0_t1 v101 k0_hw11 => k0_hw11.2.2.1
theorem k0_off44_inb : ∀ (i : grid0.Coords) (k0_t1 : Fin k0_t1_loop.trips) (v101 : BitVec 32) (k0_hw11 : k0_chk11 i k0_t1 v101), ∀ a, (k0_off44 v101) a + S1x1x16.size a ≤ S16x8x128.size a := fun i k0_t1 v101 k0_hw11 => k0_hw11.2.2.2

def k0_off45 (v103 : BitVec 32) : Fin 3 → Nat :=
  let c11_i32_327 : BitVec 32 := 11#32
  let v599 : Index := Scalar.indexCast c11_i32_327
  let c3_i32_328 : BitVec 32 := 3#32
  let v600 : Index := Scalar.indexCast c3_i32_328
  let c112_i32_326 : BitVec 32 := 112#32
  let v598 : BitVec 32 := Scalar.andi v103 c112_i32_326
  let v601 : Index := Scalar.indexCast v598
  ![11, 3, v601.toNat]

def k0_chk12 (i : grid0.Coords) (k0_t1 : Fin k0_t1_loop.trips) (v103 : BitVec 32) : Prop :=
  (128 ∣ (k0_mult25 v103).toNat) ∧
  (∀ a, (k0_off14 i k0_t1 v103) a + S8x128.size a ≤ S4096x32768.size a) ∧
  (∀ a, (k0_off30 i k0_t1 v103) a + S8x128.size a ≤ S4096x32768.size a) ∧
  (∀ a, (k0_off45 v103) a + S1x1x16.size a ≤ S16x8x128.size a)
theorem k0_mult25_dvd : ∀ (i : grid0.Coords) (k0_t1 : Fin k0_t1_loop.trips) (v103 : BitVec 32) (k0_hw12 : k0_chk12 i k0_t1 v103), 128 ∣ (k0_mult25 v103).toNat := fun i k0_t1 v103 k0_hw12 => k0_hw12.1
theorem k0_off14_inb : ∀ (i : grid0.Coords) (k0_t1 : Fin k0_t1_loop.trips) (v103 : BitVec 32) (k0_hw12 : k0_chk12 i k0_t1 v103), ∀ a, (k0_off14 i k0_t1 v103) a + S8x128.size a ≤ S4096x32768.size a := fun i k0_t1 v103 k0_hw12 => k0_hw12.2.1
theorem k0_off30_inb : ∀ (i : grid0.Coords) (k0_t1 : Fin k0_t1_loop.trips) (v103 : BitVec 32) (k0_hw12 : k0_chk12 i k0_t1 v103), ∀ a, (k0_off30 i k0_t1 v103) a + S8x128.size a ≤ S4096x32768.size a := fun i k0_t1 v103 k0_hw12 => k0_hw12.2.2.1
theorem k0_off45_inb : ∀ (i : grid0.Coords) (k0_t1 : Fin k0_t1_loop.trips) (v103 : BitVec 32) (k0_hw12 : k0_chk12 i k0_t1 v103), ∀ a, (k0_off45 v103) a + S1x1x16.size a ≤ S16x8x128.size a := fun i k0_t1 v103 k0_hw12 => k0_hw12.2.2.2

def k0_off46 (v105 : BitVec 32) : Fin 3 → Nat :=
  let c12_i32_336 : BitVec 32 := 12#32
  let v617 : Index := Scalar.indexCast c12_i32_336
  let c4_i32_337 : BitVec 32 := 4#32
  let v618 : Index := Scalar.indexCast c4_i32_337
  let c112_i32_335 : BitVec 32 := 112#32
  let v616 : BitVec 32 := Scalar.andi v105 c112_i32_335
  let v619 : Index := Scalar.indexCast v616
  ![12, 4, v619.toNat]

def k0_chk13 (i : grid0.Coords) (k0_t1 : Fin k0_t1_loop.trips) (v105 : BitVec 32) : Prop :=
  (128 ∣ (k0_mult27 v105).toNat) ∧
  (∀ a, (k0_off15 i k0_t1 v105) a + S8x128.size a ≤ S4096x32768.size a) ∧
  (∀ a, (k0_off31 i k0_t1 v105) a + S8x128.size a ≤ S4096x32768.size a) ∧
  (∀ a, (k0_off46 v105) a + S1x1x16.size a ≤ S16x8x128.size a)
theorem k0_mult27_dvd : ∀ (i : grid0.Coords) (k0_t1 : Fin k0_t1_loop.trips) (v105 : BitVec 32) (k0_hw13 : k0_chk13 i k0_t1 v105), 128 ∣ (k0_mult27 v105).toNat := fun i k0_t1 v105 k0_hw13 => k0_hw13.1
theorem k0_off15_inb : ∀ (i : grid0.Coords) (k0_t1 : Fin k0_t1_loop.trips) (v105 : BitVec 32) (k0_hw13 : k0_chk13 i k0_t1 v105), ∀ a, (k0_off15 i k0_t1 v105) a + S8x128.size a ≤ S4096x32768.size a := fun i k0_t1 v105 k0_hw13 => k0_hw13.2.1
theorem k0_off31_inb : ∀ (i : grid0.Coords) (k0_t1 : Fin k0_t1_loop.trips) (v105 : BitVec 32) (k0_hw13 : k0_chk13 i k0_t1 v105), ∀ a, (k0_off31 i k0_t1 v105) a + S8x128.size a ≤ S4096x32768.size a := fun i k0_t1 v105 k0_hw13 => k0_hw13.2.2.1
theorem k0_off46_inb : ∀ (i : grid0.Coords) (k0_t1 : Fin k0_t1_loop.trips) (v105 : BitVec 32) (k0_hw13 : k0_chk13 i k0_t1 v105), ∀ a, (k0_off46 v105) a + S1x1x16.size a ≤ S16x8x128.size a := fun i k0_t1 v105 k0_hw13 => k0_hw13.2.2.2

def k0_off47 (v107 : BitVec 32) : Fin 3 → Nat :=
  let c13_i32_345 : BitVec 32 := 13#32
  let v635 : Index := Scalar.indexCast c13_i32_345
  let c5_i32_346 : BitVec 32 := 5#32
  let v636 : Index := Scalar.indexCast c5_i32_346
  let c112_i32_344 : BitVec 32 := 112#32
  let v634 : BitVec 32 := Scalar.andi v107 c112_i32_344
  let v637 : Index := Scalar.indexCast v634
  ![13, 5, v637.toNat]

def k0_chk14 (i : grid0.Coords) (k0_t1 : Fin k0_t1_loop.trips) (v107 : BitVec 32) : Prop :=
  (128 ∣ (k0_mult29 v107).toNat) ∧
  (∀ a, (k0_off16 i k0_t1 v107) a + S8x128.size a ≤ S4096x32768.size a) ∧
  (∀ a, (k0_off32 i k0_t1 v107) a + S8x128.size a ≤ S4096x32768.size a) ∧
  (∀ a, (k0_off47 v107) a + S1x1x16.size a ≤ S16x8x128.size a)
theorem k0_mult29_dvd : ∀ (i : grid0.Coords) (k0_t1 : Fin k0_t1_loop.trips) (v107 : BitVec 32) (k0_hw14 : k0_chk14 i k0_t1 v107), 128 ∣ (k0_mult29 v107).toNat := fun i k0_t1 v107 k0_hw14 => k0_hw14.1
theorem k0_off16_inb : ∀ (i : grid0.Coords) (k0_t1 : Fin k0_t1_loop.trips) (v107 : BitVec 32) (k0_hw14 : k0_chk14 i k0_t1 v107), ∀ a, (k0_off16 i k0_t1 v107) a + S8x128.size a ≤ S4096x32768.size a := fun i k0_t1 v107 k0_hw14 => k0_hw14.2.1
theorem k0_off32_inb : ∀ (i : grid0.Coords) (k0_t1 : Fin k0_t1_loop.trips) (v107 : BitVec 32) (k0_hw14 : k0_chk14 i k0_t1 v107), ∀ a, (k0_off32 i k0_t1 v107) a + S8x128.size a ≤ S4096x32768.size a := fun i k0_t1 v107 k0_hw14 => k0_hw14.2.2.1
theorem k0_off47_inb : ∀ (i : grid0.Coords) (k0_t1 : Fin k0_t1_loop.trips) (v107 : BitVec 32) (k0_hw14 : k0_chk14 i k0_t1 v107), ∀ a, (k0_off47 v107) a + S1x1x16.size a ≤ S16x8x128.size a := fun i k0_t1 v107 k0_hw14 => k0_hw14.2.2.2

def k0_off48 (v109 : BitVec 32) : Fin 3 → Nat :=
  let c14_i32_354 : BitVec 32 := 14#32
  let v653 : Index := Scalar.indexCast c14_i32_354
  let c6_i32_355 : BitVec 32 := 6#32
  let v654 : Index := Scalar.indexCast c6_i32_355
  let c112_i32_353 : BitVec 32 := 112#32
  let v652 : BitVec 32 := Scalar.andi v109 c112_i32_353
  let v655 : Index := Scalar.indexCast v652
  ![14, 6, v655.toNat]

def k0_chk15 (i : grid0.Coords) (k0_t1 : Fin k0_t1_loop.trips) (v109 : BitVec 32) : Prop :=
  (128 ∣ (k0_mult31 v109).toNat) ∧
  (∀ a, (k0_off17 i k0_t1 v109) a + S8x128.size a ≤ S4096x32768.size a) ∧
  (∀ a, (k0_off33 i k0_t1 v109) a + S8x128.size a ≤ S4096x32768.size a) ∧
  (∀ a, (k0_off48 v109) a + S1x1x16.size a ≤ S16x8x128.size a)
theorem k0_mult31_dvd : ∀ (i : grid0.Coords) (k0_t1 : Fin k0_t1_loop.trips) (v109 : BitVec 32) (k0_hw15 : k0_chk15 i k0_t1 v109), 128 ∣ (k0_mult31 v109).toNat := fun i k0_t1 v109 k0_hw15 => k0_hw15.1
theorem k0_off17_inb : ∀ (i : grid0.Coords) (k0_t1 : Fin k0_t1_loop.trips) (v109 : BitVec 32) (k0_hw15 : k0_chk15 i k0_t1 v109), ∀ a, (k0_off17 i k0_t1 v109) a + S8x128.size a ≤ S4096x32768.size a := fun i k0_t1 v109 k0_hw15 => k0_hw15.2.1
theorem k0_off33_inb : ∀ (i : grid0.Coords) (k0_t1 : Fin k0_t1_loop.trips) (v109 : BitVec 32) (k0_hw15 : k0_chk15 i k0_t1 v109), ∀ a, (k0_off33 i k0_t1 v109) a + S8x128.size a ≤ S4096x32768.size a := fun i k0_t1 v109 k0_hw15 => k0_hw15.2.2.1
theorem k0_off48_inb : ∀ (i : grid0.Coords) (k0_t1 : Fin k0_t1_loop.trips) (v109 : BitVec 32) (k0_hw15 : k0_chk15 i k0_t1 v109), ∀ a, (k0_off48 v109) a + S1x1x16.size a ≤ S16x8x128.size a := fun i k0_t1 v109 k0_hw15 => k0_hw15.2.2.2

def k0_off49 (v111 : BitVec 32) : Fin 3 → Nat :=
  let c15_i32_363 : BitVec 32 := 15#32
  let v671 : Index := Scalar.indexCast c15_i32_363
  let c7_i32_364 : BitVec 32 := 7#32
  let v672 : Index := Scalar.indexCast c7_i32_364
  let c112_i32_362 : BitVec 32 := 112#32
  let v670 : BitVec 32 := Scalar.andi v111 c112_i32_362
  let v673 : Index := Scalar.indexCast v670
  ![15, 7, v673.toNat]

def k0_chk16 (i : grid0.Coords) (k0_t1 : Fin k0_t1_loop.trips) (v111 : BitVec 32) : Prop :=
  (128 ∣ (k0_mult33 v111).toNat) ∧
  (∀ a, (k0_off18 i k0_t1 v111) a + S8x128.size a ≤ S4096x32768.size a) ∧
  (∀ a, (k0_off49 v111) a + S1x1x16.size a ≤ S16x8x128.size a)
theorem k0_mult33_dvd : ∀ (i : grid0.Coords) (k0_t1 : Fin k0_t1_loop.trips) (v111 : BitVec 32) (k0_hw16 : k0_chk16 i k0_t1 v111), 128 ∣ (k0_mult33 v111).toNat := fun i k0_t1 v111 k0_hw16 => k0_hw16.1
theorem k0_off18_inb : ∀ (i : grid0.Coords) (k0_t1 : Fin k0_t1_loop.trips) (v111 : BitVec 32) (k0_hw16 : k0_chk16 i k0_t1 v111), ∀ a, (k0_off18 i k0_t1 v111) a + S8x128.size a ≤ S4096x32768.size a := fun i k0_t1 v111 k0_hw16 => k0_hw16.2.1
theorem k0_off49_inb : ∀ (i : grid0.Coords) (k0_t1 : Fin k0_t1_loop.trips) (v111 : BitVec 32) (k0_hw16 : k0_chk16 i k0_t1 v111), ∀ a, (k0_off49 v111) a + S1x1x16.size a ≤ S16x8x128.size a := fun i k0_t1 v111 k0_hw16 => k0_hw16.2.2

def k0_off50 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r1 : BitVec 32 := 0#32
  ![v1.toNat, 0]
abbrev grid1 : Pipeline.Grid := ⟨1, ![32], ![false]⟩

def k1_cond1 (i : grid1.Coords) : BitVec 1 :=
  let arg0 : BitVec 32 := BitVec.ofNat 32 (i 0).val
  let c0_i32_11 : BitVec 32 := 0#32
  let v23 : BitVec 1 := Scalar.cmpi .eq arg0 c0_i32_11
  let v24 : BitVec 32 := Scalar.extui v23
  let c0_i32_12 : BitVec 32 := 0#32
  let v25 : BitVec 1 := Scalar.cmpi .ne v24 c0_i32_12
  v25

def k1_cond2 (i : grid1.Coords) : BitVec 1 :=
  let arg0 : BitVec 32 := BitVec.ofNat 32 (i 0).val
  let c0_i32_13 : BitVec 32 := 0#32
  let v26 : BitVec 1 := Scalar.cmpi .sgt arg0 c0_i32_13
  let v27 : BitVec 32 := Scalar.extui v26
  let c0_i32_14 : BitVec 32 := 0#32
  let v28 : BitVec 1 := Scalar.cmpi .ne v27 c0_i32_14
  v28

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := .none

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "redistributed" => some ((1 / 327660 : ℝ) : EReal)
  | "redistributed_minus_confidence" => some ((-294893 / 327660 : ℝ) : EReal)
  | "row_entropy" => some (((1 / 10) * (Real.log (129140163 / 109220000000000)) : ℝ) : EReal)
  | _ => none
-- ==== ReferenceIdeal.lean ====
abbrev S4096x32768 : Shape := ⟨2, ![4096, 32768]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S1 : Shape := ⟨1, ![1]⟩

abbrev nBuf : Space → Nat
  | .hbm => 58
  | .vmem => 0
  | .smem => 0
  | _ => 0

abbrev bufTy : (tb : Table) → Fin (tcTables nBuf tb) → BufTy
  | .hbm, ⟨0, _⟩ => ⟨S4096x32768, .f32⟩
  | .hbm, ⟨1, _⟩ => ⟨S4096, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x32768, .f32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S4096x1, .i32⟩
  | .hbm, ⟨27, _⟩ => ⟨S4096x2, .i32⟩
  | .hbm, ⟨28, _⟩ => ⟨S4096, .f32⟩
  | .hbm, ⟨29, _⟩ => ⟨S4096x32768, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S4096, .f32⟩
  | .hbm, ⟨34, _⟩ => ⟨S4096x32768, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S4096x1, .i1⟩
  | .hbm, ⟨39, _⟩ => ⟨S_, .f32⟩
  | .hbm, ⟨40, _⟩ => ⟨S_, .f32⟩
  | .hbm, ⟨41, _⟩ => ⟨S4096x32768, .i1⟩
  | .hbm, ⟨42, _⟩ => ⟨S4096x32768, .f32⟩
  | .hbm, ⟨43, _⟩ => ⟨S4096x32768, .f32⟩
  | .hbm, ⟨44, _⟩ => ⟨S_, .f32⟩
  | .hbm, ⟨45, _⟩ => ⟨S4096x32768, .f32⟩
  | .hbm, ⟨46, _⟩ => ⟨S4096x32768, .i1⟩
  | .hbm, ⟨47, _⟩ => ⟨S4096x32768, .i1⟩
  | .hbm, ⟨48, _⟩ => ⟨S4096x32768, .i1⟩
  | .hbm, ⟨49, _⟩ => ⟨S4096x32768, .f32⟩
  | .hbm, ⟨50, _⟩ => ⟨S4096x32768, .f32⟩
  | .hbm, ⟨51, _⟩ => ⟨S_, .f32⟩
  | .hbm, ⟨52, _⟩ => ⟨S4096x32768, .f32⟩
  | .hbm, ⟨53, _⟩ => ⟨S4096x32768, .f32⟩
  | .hbm, ⟨54, _⟩ => ⟨S4096x32768, .f32⟩
  | .hbm, ⟨55, _⟩ => ⟨S4096x32768, .f32⟩
  | .hbm, ⟨56, _⟩ => ⟨S_, .f32⟩
  | .hbm, ⟨57, _⟩ => ⟨S_, .f32⟩
  | _, _ => ⟨S4096x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_11 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_12 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Proof.Common.lean ====
/-
  What every module of this certificate names: the SparseCore configuration of the program over ideal values and any
  other values, its handshake facts, the resource algebra (the handshakes' rounds, the two TensorCore pipelines'
  rounds, the transfers' counters), and the arrays of @main. The program is proved ONCE, over any float values `F`
  that name the constants; `Named Bits` below reads a named constant as its printed bits, which is the program before
  its constants were named.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic
open Idealize.ShloMosaic.SparseCore (V)
open Idealize.ShloMosaic.SparseCore.Cfg (HIx)
open Idealize.SL Idealize.SL.RA Idealize.SL.BI Idealize.SL.Sem
open Idealize.ShloMosaic.Rounds

/-- A named constant at the device's values: the bits the program prints for it. -/
instance namedBits : Named Bits := ⟨fun _ _ {φ} bits => Scalar.ofBits (F := Bits) φ bits⟩

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, -/
abbrev UH : Type := URounds (GSem nD τ sig) ℕ
/-- the pipelines' rounds, -/
abbrev UP : Type := URounds (GSem nD τ sig) Unit
/-- and with them the transfers' counters. -/
abbrev UU : Type := UH × (UP × Counters)

abbrev EH : Emb UH (MT nD τ sig (HIx 1) (Elt F) ℕ UU ℕ) := embL

/-- Where the pipelines' rounds live. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by unfold EP embR; infer_instance

/-! ## The arrays of @main -/

abbrev pLoc (d : Dev nD) : Loc nD τ sig := (SparseCore.T d).loc main_arg0
abbrev tLoc (d : Dev nD) : Loc nD τ sig := (SparseCore.T d).loc main_arg1
abbrev fLoc (d : Dev nD) : Loc nD τ sig := (SparseCore.T d).loc main_v0
abbrev oLoc (d : Dev nD) : Loc nD τ sig := (SparseCore.T d).loc main_v1

/-! ## The tile's buffers -/

abbrev pM : Memref sig .scVector .hbm S4096x32768 .f32 := Memref.whole main_arg0_scv
abbrev tokM : Memref sig .scVector .hbm S4096 .f32 := Memref.whole main_v0_scv
abbrev outM : Memref sig .scVector .hbm S32x16 .f32 := Memref.whole main_v1_scv
abbrev wordM : Memref sig .scVector .smem S16 .i32 := Memref.whole cc0_scratch0
abbrev tgtM : Memref sig .scVector .vmem S128 .f32 := Memref.whole cc0_scratch1
abbrev tileM : Memref sig .scVector .vmem S16x8x128 .f32 := Memref.whole cc0_scratch2
abbrev colM : Memref sig .scVector .vmem S16 .f32 := Memref.whole cc0_scratch3
abbrev accM : Memref sig .scVector .vmem S16 .f32 := Memref.whole cc0_scratch4

section Tile
variable (L : grid0.Coords)
abbrev cV : Fin τ.nSC := (L 0).castLE hcore0
abbrev jV : Fin τ.nSub := (L 1).castLE hsub0
end Tile

end Cert.Proof

end
-- ==== Proof.Words.lean ====
/-
  The index arithmetic of the gather: where the window of one token begins in the table of log-probabilities, and which
  sixteen of its lanes are read, from the token's word. Every check the kernel makes of a window holds of a word below
  the vocabulary's size.
-/
module

public import proofs.«01_k».proof.Proof.Common

@[expose] public section

noncomputable section

namespace Cert.Proof

open Cert.KernelIdeal Cert.KernelIdeal.Gen
open Idealize.ShloMosaic

/-- The first of the 128 columns of a token's window: the multiple of 128 at or below the token. -/
def colStart (v : BitVec 32) : BitVec 32 := Scalar.shli (Scalar.shrsi v 7#32) 7#32

/-- The first of the sixteen lanes read, within the window. -/
def laneStart (v : BitVec 32) : BitVec 32 := Scalar.indexCast (Scalar.andi v 112#32)

/-- The lane of the token among the sixteen read; none (all ones) for the padding token. -/
def laneOf (v : BitVec 32) : BitVec 32 := Scalar.select (Scalar.cmpi .ne v 0#32) (Scalar.andi v 15#32) 4294967295#32

/-- The first of the eight rows of a window: the tile's rows, the trip's sixteen among them, and the half `h` (0 or 8). -/
def rowStart (L : grid0.Coords) (t : Fin k0_t1_loop.trips) (h : BitVec 32) : BitVec 32 :=
  Scalar.addi (Scalar.addi (Scalar.muli (Scalar.addi (Scalar.muli (BitVec.ofNat 32 (L 1).val) 2#32) (BitVec.ofNat 32 (L 0).val)) 128#32)
    (Scalar.muli (Scf.iv 0#32 1#32 t) 16#32)) h

theorem rowStart_zero : ∀ (L : grid0.Coords) (t : Fin k0_t1_loop.trips),
    (rowStart L t 0#32).toNat = 256 * (L 1).val + 128 * (L 0).val + 16 * t.val := by decide +kernel

theorem rowStart_eight : ∀ (L : grid0.Coords) (t : Fin k0_t1_loop.trips),
    (rowStart L t 8#32).toNat = 256 * (L 1).val + 128 * (L 0).val + 16 * t.val + 8 := by decide +kernel

theorem rowStart_le : ∀ (L : grid0.Coords) (t : Fin k0_t1_loop.trips),
    (rowStart L t 0#32).toNat + 8 ≤ 4096 ∧ (rowStart L t 8#32).toNat + 8 ≤ 4096 := by decide +kernel

theorem colStart_toNat {v : BitVec 32} (h : v.toNat < 32768) : (colStart v).toNat = v.toNat / 128 * 128 := by
  have hm : v.msb = false := by
    rw [BitVec.msb_eq_false_iff_two_mul_lt]; omega
  have h1 : Scalar.shrsi v 7#32 = v >>> 7 := by
    unfold Scalar.shrsi IntOp.shrsi
    rw [if_pos (by decide), BitVec.sshiftRight', BitVec.sshiftRight_eq_of_msb_false hm]; rfl
  have h2 : Scalar.shli (v >>> 7) 7#32 = (v >>> 7) <<< 7#32 := by
    unfold Scalar.shli IntOp.shli
    rw [if_pos (by decide)]
  rw [colStart, h1, h2, BitVec.shiftLeft_eq', BitVec.toNat_shiftLeft, BitVec.toNat_ushiftRight, Nat.shiftLeft_eq,
    Nat.shiftRight_eq_div_pow]
  show v.toNat / 2 ^ 7 * 2 ^ 7 % 2 ^ 32 = _
  norm_num
  omega

private theorem and_112_small : ∀ b : Fin 128, b.val &&& 112 = b.val / 16 * 16 := by decide

theorem laneStart_toNat (v : BitVec 32) : (laneStart v).toNat = v.toNat % 128 / 16 * 16 := by
  show (v &&& 112#32).toNat = _
  rw [BitVec.toNat_and]
  show v.toNat &&& 112 = _
  rw [show (112 : ℕ) = 127 &&& 112 from rfl, ← Nat.and_assoc, show (127 : ℕ) = 2 ^ 7 - 1 from rfl, Nat.and_two_pow_sub_one_eq_mod]
  exact and_112_small ⟨v.toNat % 128, Nat.mod_lt _ (by decide)⟩

theorem and_15_toNat (v : BitVec 32) : (Scalar.andi v 15#32 : BitVec 32).toNat = v.toNat % 16 := by
  show (v &&& 15#32).toNat = _
  rw [BitVec.toNat_and]
  show v.toNat &&& (2 ^ 4 - 1) = _
  rw [Nat.and_two_pow_sub_one_eq_mod]

/-- The checks of one window: its columns begin at a multiple of 128, the window lies inside the table, -/
theorem window_chk (L : grid0.Coords) (t : Fin k0_t1_loop.trips) {h v : BitVec 32} (hh : h = 0#32 ∨ h = 8#32) (hv : v.toNat < 32768) :
    128 ∣ (colStart v).toNat ∧
      ∀ a, (![(rowStart L t h).toNat, (colStart v).toNat] : Fin 2 → Nat) a + S8x128.size a ≤ S4096x32768.size a := by
  have hc := colStart_toNat hv
  refine ⟨⟨v.toNat / 128, by omega⟩, Fin.forall_fin_two.mpr ⟨?_, ?_⟩⟩
  · show (rowStart L t h).toNat + 8 ≤ 4096
    rcases hh with rfl | rfl
    · exact (rowStart_le L t).1
    · exact (rowStart_le L t).2
  · show (colStart v).toNat + 128 ≤ 32768
    omega

/-- and the sixteen lanes read lie inside the window, at row `b` of staged tile `a`. -/
theorem lanes_chk {a b : ℕ} (ha : a < 16) (hb : b < 8) (v : BitVec 32) :
    ∀ x, (![a, b, (laneStart v).toNat] : Fin 3 → Nat) x + S1x1x16.size x ≤ S16x8x128.size x := by
  have h := laneStart_toNat v
  intro x
  match x with
  | 0 => show a + 1 ≤ 16; omega
  | 1 => show b + 1 ≤ 8; omega
  | 2 => show (laneStart v).toNat + 16 ≤ 128; omega

variable {L : grid0.Coords} {t : Fin k0_t1_loop.trips} {v : BitVec 32}

/-- The checks of a copy whose wait names the same window again. -/
theorem chk_twice {h : BitVec 32} (hh : h = 0#32 ∨ h = 8#32) {a b : ℕ} (ha : a < 16) (hb : b < 8) (hv : v.toNat < 32768) :
    128 ∣ (colStart v).toNat ∧
      (∀ a, (![(rowStart L t h).toNat, (colStart v).toNat] : Fin 2 → Nat) a + S8x128.size a ≤ S4096x32768.size a) ∧
      (∀ a, (![(rowStart L t h).toNat, (colStart v).toNat] : Fin 2 → Nat) a + S8x128.size a ≤ S4096x32768.size a) ∧
      (∀ x, (![a, b, (laneStart v).toNat] : Fin 3 → Nat) x + S1x1x16.size x ≤ S16x8x128.size x) :=
  ⟨(window_chk L t hh hv).1, (window_chk L t hh hv).2, (window_chk L t hh hv).2, lanes_chk ha hb v⟩

theorem chk1 (hv : v.toNat < 32768) : k0_chk1 L t v := chk_twice (.inl rfl) (by decide : 0 < 16) (by decide : 0 < 8) hv
theorem chk2 (hv : v.toNat < 32768) : k0_chk2 L t v := chk_twice (.inl rfl) (by decide : 1 < 16) (by decide : 1 < 8) hv
theorem chk3 (hv : v.toNat < 32768) : k0_chk3 L t v := chk_twice (.inl rfl) (by decide : 2 < 16) (by decide : 2 < 8) hv
theorem chk4 (hv : v.toNat < 32768) : k0_chk4 L t v := chk_twice (.inl rfl) (by decide : 3 < 16) (by decide : 3 < 8) hv
theorem chk5 (hv : v.toNat < 32768) : k0_chk5 L t v := chk_twice (.inl rfl) (by decide : 4 < 16) (by decide : 4 < 8) hv
theorem chk6 (hv : v.toNat < 32768) : k0_chk6 L t v := chk_twice (.inl rfl) (by decide : 5 < 16) (by decide : 5 < 8) hv
theorem chk7 (hv : v.toNat < 32768) : k0_chk7 L t v := chk_twice (.inl rfl) (by decide : 6 < 16) (by decide : 6 < 8) hv
theorem chk8 (hv : v.toNat < 32768) : k0_chk8 L t v := chk_twice (.inl rfl) (by decide : 7 < 16) (by decide : 7 < 8) hv
theorem chk9 (hv : v.toNat < 32768) : k0_chk9 L t v := chk_twice (.inr rfl) (by decide : 8 < 16) (by decide : 0 < 8) hv
theorem chk10 (hv : v.toNat < 32768) : k0_chk10 L t v := chk_twice (.inr rfl) (by decide : 9 < 16) (by decide : 1 < 8) hv
theorem chk11 (hv : v.toNat < 32768) : k0_chk11 L t v := chk_twice (.inr rfl) (by decide : 10 < 16) (by decide : 2 < 8) hv
theorem chk12 (hv : v.toNat < 32768) : k0_chk12 L t v := chk_twice (.inr rfl) (by decide : 11 < 16) (by decide : 3 < 8) hv
theorem chk13 (hv : v.toNat < 32768) : k0_chk13 L t v := chk_twice (.inr rfl) (by decide : 12 < 16) (by decide : 4 < 8) hv
theorem chk14 (hv : v.toNat < 32768) : k0_chk14 L t v := chk_twice (.inr rfl) (by decide : 13 < 16) (by decide : 5 < 8) hv
theorem chk15 (hv : v.toNat < 32768) : k0_chk15 L t v := chk_twice (.inr rfl) (by decide : 14 < 16) (by decide : 6 < 8) hv
theorem chk16 (hv : v.toNat < 32768) : k0_chk16 L t v :=
  ⟨(window_chk L t (.inr rfl) hv).1, (window_chk L t (.inr rfl) hv).2, lanes_chk (by decide : 15 < 16) (by decide : 7 < 8) v⟩

end Cert.Proof

end
-- ==== Proof.Staged.lean ====
/-
  What one trip of the gather computes, as a function of the memory it reads: the sixteen words of the trip, the sixteen
  windows staged side by side, the sixteen lanes loaded from each, and the accumulator after each of the sixteen rows.
  A staged tile read back is the table itself at the token's row and columns (`lanes_eq`).
-/
module

public import proofs.«01_k».proof.Proof.Words
public import Idealize.ShloMosaic.Lib.ValueLayout
public import Idealize.ShloMosaic.Lib.Pipeline.ValueKit

@[expose] public section

noncomputable section

namespace Cert.Proof

open Cert.KernelIdeal Cert.KernelIdeal.Gen
open Idealize.ShloMosaic

variable {F : FTy → Type} [FloatOps F] [Named F]

/-- The table of log-probabilities, the tile's 128 tokens, and the sixteen staged windows, as their buffers hold them. -/
abbrev PBuf (F : FTy → Type) : Type := (pM : Memref sig .scVector .hbm S4096x32768 .f32).view.ty.Contents (Elt F)
abbrev TBuf (F : FTy → Type) : Type := (tgtM : Memref sig .scVector .vmem S128 .f32).view.ty.Contents (Elt F)
abbrev GBuf (F : FTy → Type) : Type := (tileM : Memref sig .scVector .vmem S16x8x128 .f32).view.ty.Contents (Elt F)

section Trip

variable (L : grid0.Coords) (t : Fin k0_t1_loop.trips) (fp : PBuf F) (f6 : TBuf F) (f7 : GBuf F)

/-- The trip's sixteen tokens, as words. -/
def words : IVec S16 32 := k0_pay4 (tgtM.view.readAt (Elt F) (Rect.unit (s := S128) (k0_off2 t) S16.size (k0_off2_inb t)).toLoadRect f6)

theorem slices_one (k : ℕ) (hk : k < 16) : S16.Slices ![k] S1 :=
  ⟨rfl, fun a => by match a with | 0 => show k + 1 ≤ 16; omega⟩

/-- The trip's word `k`. -/
def word (k : ℕ) (hk : k < 16) : BitVec 32 :=
  extractAt ![0] (extractStridedSlice S1 ![k] (words t f6) (slices_one k hk)) inpos_S1_p0

/-- Which half of the trip's sixteen rows row `k` lies in: its window begins at row 0 or 8 of them. -/
def half (k : ℕ) : BitVec 32 := BitVec.ofNat 32 (k / 8 * 8)

theorem half_or (k : ℕ) (hk : k < 16) : half k = 0#32 ∨ half k = 8#32 := by
  rcases Nat.lt_or_ge k 8 with h | h
  · left; rw [half, Nat.div_eq_of_lt h]
  · right; rw [half, show k / 8 = 1 by omega]

theorem tile_inb (k : ℕ) (hk : k < 16) : ∀ a, (![k, 0, 0] : Fin 3 → ℕ) a + S1x8x128.size a ≤ S16x8x128.size a := by
  intro a
  match a with
  | 0 => show k + 1 ≤ 16; omega
  | 1 => show 0 + 8 ≤ 8; omega
  | 2 => show 0 + 128 ≤ 128; omega

/-- Staged tile `k`. -/
abbrev tileAt (k : ℕ) (hk : k < 16) : Memref sig .scVector .vmem S8x128 .f32 :=
  (tileM.slice (Rect.unit (s := S16x8x128) ![k, 0, 0] S1x8x128.size (tile_inb k hk)) (fun _ => rfl)).squeeze S8x128 squeezes_S1x8x128_S8x128

/-- The window of the table at rows `rowStart + h` and the columns of the token `v`. -/
abbrev windowAt (h v : BitVec 32) (hh : h = 0#32 ∨ h = 8#32) (hv : v.toNat < 32768) : Memref sig .scVector .hbm S8x128 .f32 :=
  pM.slice (Rect.unit (s := S4096x32768) ![(rowStart L t h).toNat, (colStart v).toNat] S8x128.size (window_chk L t hh hv).2) (fun _ => rfl)

theorem word_lt (hj : ∀ j : S16.Idx, (words t f6 j).toNat < 32768) (k : ℕ) (hk : k < 16) : (word t f6 k hk).toNat < 32768 := hj _

variable (hw : ∀ k hk, (word t f6 k hk).toNat < 32768)

/-- The staging buffer after the first `n` windows have landed. -/
def staged : (n : ℕ) → n ≤ 16 → GBuf F
  | 0, _ => f7
  | n + 1, h => (tileAt n h).view.write (Elt F) (staged n (Nat.le_of_succ_le h))
      (ReadAs.same.apply ((windowAt L t (half n) (word t f6 n h) (half_or n h) (hw n h)).view.read (Elt F) fp)) Finset.univ

/-- The sixteen lanes read back of staged tile `k`. -/
def lanes (k : ℕ) (hk : k < 16) : Vec F S1x1x16 .f32 :=
  tileM.view.readAt (Elt F) (Rect.unit (s := S16x8x128) ![k, k % 8, (laneStart (word t f6 k hk)).toNat] S1x1x16.size
    (lanes_chk hk (Nat.mod_lt k (by decide)) _)).toLoadRect (staged L t fp f6 f7 hw 16 (le_refl _))

/-- The lanes' numbers. -/
abbrev laneIds : IVec S16 32 := iota .scVector S16 32 [0] iota_S16_d0_w32_scVector

/-- One row's step: the accumulator gains the row's term in the token's lane, and nothing in the others. -/
def step (v : BitVec 32) (x : Vec F S1x1x16 .f32) (acc : FVec F S16 .f32) : FVec F S16 .f32 :=
  addf acc (select (cmpi .eq laneIds (broadcast S16 (laneOf v)))
    (addf (mulf (broadcast S16 (Named.named κ "redistributed_minus_confidence" 0xBF666633#32)) (shapeCast S16 x shapeCasts_S1x1x16_S16))
      (broadcast S16 (Named.named κ "row_entropy" 0xBFAEB1B0#32)))
    (broadcast S16 (Scalar.ofBits .f32 0x00000000#32)))

/-- The accumulator after the trip's first `n` rows. -/
def accAfter (acc : FVec F S16 .f32) : (n : ℕ) → n ≤ 16 → FVec F S16 .f32
  | 0, _ => acc
  | n + 1, h => step (word t f6 n h) (lanes L t fp f6 f7 hw n h) (accAfter acc n (Nat.le_of_succ_le h))

end Trip

end Cert.Proof

end
-- ==== Proof.Chunk.lean ====
/-
  One trip of the gather's loop: from the tile's tokens, the read shares of the table and the staging buffer, the run
  returns the accumulator after the trip's sixteen rows (`accAfter`) and gives every buffer back. Sixteen copies are
  outstanding on the tile's one semaphore between the first issue and the last wait; they are one batch.
-/
module

public import proofs.«01_k».proof.Proof.Staged
public import Idealize.ShloMosaic.Lib.Batch

@[expose] public section

noncomputable section

namespace Cert.Proof

open Cert.KernelIdeal Cert.KernelIdeal.Gen
open Idealize.ShloMosaic
open Idealize.ShloMosaic.SparseCore (V)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Tactic

variable {F : FTy → Type} [FloatOps F] [Named F]

local notation "𝕄" => MT nD τ sig (HIx 1) (Elt F) ℕ UU ℕ

/-- Sixteen read shares of the table, one for each copy outstanding. -/
def readShares (d : Dev nD) (L : grid0.Coords) (q : PosShare TreeShare) (fp : Buf (Elt F) (pM.view.loc (V d (cV L) (jV L)))) : sProp 𝕄 :=
  iprop((pM.view.loc (V d (cV L) (jV L)) ↦{Transfers.shareTokN q 1} fp)
    ∗ (pM.view.loc (V d (cV L) (jV L)) ↦{Transfers.shareTokN q 2} fp)
    ∗ (pM.view.loc (V d (cV L) (jV L)) ↦{Transfers.shareTokN q 3} fp)
    ∗ (pM.view.loc (V d (cV L) (jV L)) ↦{Transfers.shareTokN q 4} fp)
    ∗ (pM.view.loc (V d (cV L) (jV L)) ↦{Transfers.shareTokN q 5} fp)
    ∗ (pM.view.loc (V d (cV L) (jV L)) ↦{Transfers.shareTokN q 6} fp)
    ∗ (pM.view.loc (V d (cV L) (jV L)) ↦{Transfers.shareTokN q 7} fp)
    ∗ (pM.view.loc (V d (cV L) (jV L)) ↦{Transfers.shareTokN q 8} fp)
    ∗ (pM.view.loc (V d (cV L) (jV L)) ↦{Transfers.shareTokN q 9} fp)
    ∗ (pM.view.loc (V d (cV L) (jV L)) ↦{Transfers.shareTokN q 10} fp)
    ∗ (pM.view.loc (V d (cV L) (jV L)) ↦{Transfers.shareTokN q 11} fp)
    ∗ (pM.view.loc (V d (cV L) (jV L)) ↦{Transfers.shareTokN q 12} fp)
    ∗ (pM.view.loc (V d (cV L) (jV L)) ↦{Transfers.shareTokN q 13} fp)
    ∗ (pM.view.loc (V d (cV L) (jV L)) ↦{Transfers.shareTokN q 14} fp)
    ∗ (pM.view.loc (V d (cV L) (jV L)) ↦{Transfers.shareTokN q 15} fp)
    ∗ (pM.view.loc (V d (cV L) (jV L)) ↦{Transfers.shareTokN q 16} fp))

/-- The waits a trip adds. -/
def tripWaits (W : Waits sig (HIx 1)) : ℕ → Waits sig (HIx 1)
  | 0 => W
  | n + 1 => insert (SemLoc.dma cc0_scratch5.sem, (default : HIx 1)) (tripWaits W n)

set_option maxHeartbeats 1000000 in
theorem chunk_run (d : Dev nD) (L : grid0.Coords) (t : Fin k0_t1_loop.trips) (acc : FVec F S16 .f32) (v2 : BitVec 32)
    (q : PosShare TreeShare) (fp : Buf (Elt F) (pM.view.loc (V d (cV L) (jV L))))
    (f5 : Buf (Elt F) (wordM.view.loc (V d (cV L) (jV L)))) (f6 : Buf (Elt F) (tgtM.view.loc (V d (cV L) (jV L))))
    (f7 : Buf (Elt F) (tileM.view.loc (V d (cV L) (jV L))))
    (O : CellTallies nD τ sig (HIx 1)) (W : Waits sig (HIx 1))
    (_plan : Transfers.BatchOf (V d (cV L) (jV L)) (SemLoc.dma (sig := sig) cc0_scratch5.sem) 16 (windows := true))
    (hj : ∀ j : S16.Idx, (k0_pay4 (tgtM.view.readAt (Elt F) (Rect.unit (s := S128) (k0_off2 t) S16.size (k0_off2_inb t)).toLoadRect f6) j).toNat < 32768) :
    (iprop((tgtM.view.loc (V d (cV L) (jV L)) ↦{fullShare} f6) ∗ (wordM.view.loc (V d (cV L) (jV L)) ↦{fullShare} f5)
        ∗ (tileM.view.loc (V d (cV L) (jV L)) ↦{fullShare} f7) ∗ readShares d L q fp
        ∗ semVal (V d (cV L) (jV L), SemLoc.dma cc0_scratch5.sem) 0
        ∗ Transfers.MayWaits (V d (cV L) (jV L)) (default : HIx 1) O ∗ owes (V d (cV L) (jV L)) O W) : sProp 𝕄)
      ⊢ wp frame (wpE (defs₀ (F := F)) 𝒱₀ (V d (cV L) (jV L)) none) Set.univ
          (k0_t1_body L pM (Memref.isWhole_whole _) tokM (Memref.isWhole_whole _) outM (Memref.isWhole_whole _)
            wordM (Memref.isWhole_whole _) tgtM (Memref.isWhole_whole _) tileM (Memref.isWhole_whole _) colM (Memref.isWhole_whole _)
            accM (Memref.isWhole_whole _) cc0_scratch5 cc0_scoped0 cc0_scoped1 v2 laneIds t acc)
          fun a => iprop(⌜a = accAfter L t fp f6 f7 (word_lt t f6 hj) acc 16 (le_refl _)⌝
            ∗ (tgtM.view.loc (V d (cV L) (jV L)) ↦{fullShare} f6) ∗ (∃ f5, wordM.view.loc (V d (cV L) (jV L)) ↦{fullShare} f5)
            ∗ (∃ f7, tileM.view.loc (V d (cV L) (jV L)) ↦{fullShare} f7) ∗ readShares d L q fp
            ∗ semVal (V d (cV L) (jV L), SemLoc.dma cc0_scratch5.sem) 0
            ∗ Transfers.MayWaits (V d (cV L) (jV L)) (default : HIx 1) O ∗ owes (V d (cV L) (jV L)) O (tripWaits W 16)) := by
  unfold readShares
  iintro ⟨H6, H5, H7, ⟨Hp0, Hp1, Hp2, Hp3, Hp4, Hp5, Hp6, Hp7, Hp8, Hp9, Hp10, Hp11, Hp12, Hp13, Hp14, Hp15⟩, Hsem, Hmw, HO⟩
  unfold k0_t1_body
  sl_exec (disch := (first | with_reducible refine chk1 ?_ | with_reducible refine chk2 ?_ | with_reducible refine chk3 ?_ | with_reducible refine chk4 ?_ | with_reducible refine chk5 ?_ | with_reducible refine chk6 ?_ | with_reducible refine chk7 ?_ | with_reducible refine chk8 ?_ | with_reducible refine chk9 ?_ | with_reducible refine chk10 ?_ | with_reducible refine chk11 ?_ | with_reducible refine chk12 ?_ | with_reducible refine chk13 ?_ | with_reducible refine chk14 ?_ | with_reducible refine chk15 ?_ | with_reducible refine chk16 ?_); exact hj _)
  rw [wp_ret]; imodintro
  isplitl []
  · ipureintro
    rfl
  isplitl [H6]
  · iexact H6
  isplitl [H5]
  · iexists _; iexact H5
  isplitl [H7]
  · iexists _; iexact H7
  isplitl [Hp0 Hp1 Hp2 Hp3 Hp4 Hp5 Hp6 Hp7 Hp8 Hp9 Hp10 Hp11 Hp12 Hp13 Hp14 Hp15]
  · iframe
  isplitl [Hsem]
  · iexact Hsem
  isplitl [Hmw]
  · iexact Hmw
  iexact HO

end Cert.Proof

end
-- ==== Proof.Rows.lean ====
/-
  The trip's result as rows of the table: each lane read back of a staged window is the table at the token's row and
  columns, so the accumulator after a trip is sixteen more rows of one running fold over the tile's 128 rows
  (`rowsAcc`), whatever the staging buffer held before.
-/
module

public import proofs.«01_k».proof.Proof.Staged

@[expose] public section

noncomputable section

namespace Cert.Proof

open Cert.KernelIdeal Cert.KernelIdeal.Gen
open Idealize.ShloMosaic

variable {F : FTy → Type} [FloatOps F] [Named F]

/-- The table at row `r` and column `c`. -/
def pAt (fp : PBuf F) (r c : ℕ) : F .f32 := fp (ValueIdx.ix2 (Fin.ofNat 4096 r) (Fin.ofNat 32768 c))

/-- A write through staged tile `k` is seen at the tile's own elements, -/
theorem write_tile_at (k : ℕ) (hk : k < 16) (f : GBuf F) (w : S8x128.Idx → F .f32) (i : (S16x8x128).Idx) (y : S8x128.Idx)
    (h0 : (i 0 : ℕ) = k) (h1 : (i 1 : ℕ) = y 0) (h2 : (i 2 : ℕ) = y 1) :
    (tileAt k hk).view.write (Elt F) f w Finset.univ i = w y := by
  have he : (tileAt k hk).view.emb y = i := by
    funext a
    apply Fin.ext
    have hr : Shape.reshapeEquiv squeezes_S1x8x128_S8x128.numel_eq y = ValueIdx.ix3 (⟨0, Nat.one_pos⟩ : Fin 1) (y 0) (y 1) := by
      have hy : y = ValueIdx.ix2 (y 0) (y 1) := by
        funext a; match a with
        | 0 => rfl
        | 1 => rfl
      rw [hy]; exact ValueIdx.reshapeEquiv_ix2_1ab _ _ _
    refine Eq.trans (show _ = (((View.whole cc0_scratch2).slice (Rect.unit (s := S16x8x128) ![k, 0, 0] S1x8x128.size (tile_inb k hk))).emb
      (Shape.reshapeEquiv squeezes_S1x8x128_S8x128.numel_eq y) a : ℕ) from rfl) ?_
    refine (ValueKit.view_emb_slice_whole_unit_val cc0_scratch2 _ _ _ _ _).trans ?_
    rw [hr]
    match a with
    | 0 => exact h0.symm
    | 1 => exact (Nat.zero_add _).trans h1.symm
    | 2 => exact (Nat.zero_add _).trans h2.symm
  rw [← he]
  exact (tileAt k hk).view.write_emb_of_mem f w (Finset.mem_univ y)

/-- and nowhere else. -/
theorem write_tile_off (k : ℕ) (hk : k < 16) (f : GBuf F) (w : S8x128.Idx → F .f32) (i : (S16x8x128).Idx) (h0 : (i 0 : ℕ) ≠ k) :
    (tileAt k hk).view.write (Elt F) f w Finset.univ i = f i := by
  refine (tileAt k hk).view.write_of_not_mem f w Finset.univ fun hm => h0 ?_
  obtain ⟨y, -, rfl⟩ := Finset.mem_map.mp hm
  have hr : ((Shape.reshapeEquiv squeezes_S1x8x128_S8x128.numel_eq y) 0 : ℕ) = 0 :=
    Nat.lt_one_iff.mp ((Shape.reshapeEquiv squeezes_S1x8x128_S8x128.numel_eq y) 0).isLt
  refine Eq.trans (show _ = (((View.whole cc0_scratch2).slice (Rect.unit (s := S16x8x128) ![k, 0, 0] S1x8x128.size (tile_inb k hk))).emb
      (Shape.reshapeEquiv squeezes_S1x8x128_S8x128.numel_eq y) 0 : ℕ) from rfl) ?_
  refine (ValueKit.view_emb_slice_whole_unit_val cc0_scratch2 _ _ _ _ _).trans ?_
  show k + _ = k
  rw [hr]; rfl

section Trip

variable (L : grid0.Coords) (t : Fin k0_t1_loop.trips) (fp : PBuf F) (f6 : TBuf F) (f7 : GBuf F)
variable (hw : ∀ k hk, (word t f6 k hk).toNat < 32768)

/-- The tile's first row. -/
def baseRow (L : grid0.Coords) : ℕ := 256 * (L 1).val + 128 * (L 0).val

theorem window_read (k : ℕ) (hk : k < 16) (v : BitVec 32) (hv : v.toNat < 32768) (y : S8x128.Idx) :
    (windowAt L t (half k) v (half_or k hk) hv).view.read (Elt F) fp y
      = pAt fp ((rowStart L t (half k)).toNat + y 0) ((colStart v).toNat + y 1) := by
  have hb := window_chk L t (half_or k hk) hv
  have h0 : (rowStart L t (half k)).toNat + (y 0 : ℕ) < 4096 := by
    have := hb.2 0
    have hy : (y 0 : ℕ) < 8 := (y 0).isLt
    exact lt_of_lt_of_le (Nat.add_lt_add_left hy _) this
  have h1 : (colStart v).toNat + (y 1 : ℕ) < 32768 := by
    have := hb.2 1
    have hy : (y 1 : ℕ) < 128 := (y 1).isLt
    exact lt_of_lt_of_le (Nat.add_lt_add_left hy _) this
  refine (View.read_apply _ _).trans ?_
  show fp _ = fp _
  congr 1
  funext a
  apply Fin.ext
  refine Eq.trans (show _ = (((View.whole main_arg0_scv).slice (Rect.unit (s := S4096x32768) ![(rowStart L t (half k)).toNat, (colStart v).toNat]
    S8x128.size (window_chk L t (half_or k hk) hv).2)).emb y a : ℕ) from rfl) ?_
  refine (ValueKit.view_emb_slice_whole_unit_val main_arg0_scv _ _ _ _ _).trans ?_
  match a with
  | 0 => exact (Nat.mod_eq_of_lt h0).symm
  | 1 => exact (Nat.mod_eq_of_lt h1).symm

/-- The staging buffer holds window `k` from its landing on. -/
theorem staged_at (n : ℕ) (hn : n ≤ 16) (k : ℕ) (hkn : k < n) (i : (S16x8x128).Idx) (h0 : (i 0 : ℕ) = k) :
    staged L t fp f6 f7 hw n hn i
      = pAt fp ((rowStart L t (half k)).toNat + i 1) ((colStart (word t f6 k (by omega))).toNat + i 2) := by
  induction n with
  | zero => omega
  | succ n ih =>
    rcases Nat.lt_or_ge k n with h | h
    · refine (write_tile_off n hn _ _ i (by omega)).trans ?_
      exact ih (Nat.le_of_succ_le hn) h
    · obtain rfl : k = n := by omega
      refine (write_tile_at k hn _ _ i (ValueIdx.ix2 (i 1) (i 2)) h0 rfl rfl).trans ?_
      exact window_read L t fp k hn _ _ _

theorem lanes_at (k : ℕ) (hk : k < 16) (j : S1x1x16.Idx) :
    lanes L t fp f6 f7 hw k hk j
      = pAt fp ((rowStart L t (half k)).toNat + k % 8)
          ((colStart (word t f6 k hk)).toNat + ((laneStart (word t f6 k hk)).toNat + j 2)) := by
  have hj0 : (j 0 : ℕ) = 0 := Nat.lt_one_iff.mp (j 0).isLt
  have hj1 : (j 1 : ℕ) = 0 := Nat.lt_one_iff.mp (j 1).isLt
  refine (staged_at L t fp f6 f7 hw 16 (le_refl _) k hk _ ?_).trans ?_
  · refine (ValueKit.rect_emb_unit_val (s := S16x8x128) _ _ _ j 0).trans ?_
    rw [hj0]; rfl
  · congr 2
    · refine (ValueKit.rect_emb_unit_val (s := S16x8x128) _ _ _ j 1).trans ?_
      rw [hj1]; rfl
    · exact ValueKit.rect_emb_unit_val (s := S16x8x128) _ _ _ j 2

theorem rowStart_half (k : ℕ) (hk : k < 16) : (rowStart L t (half k)).toNat + k % 8 = baseRow L + (16 * t.val + k) := by
  rcases Nat.lt_or_ge k 8 with h | h
  · rw [show half k = 0#32 by rw [half, Nat.div_eq_of_lt h], rowStart_zero, baseRow]; omega
  · rw [show half k = 8#32 by rw [half, show k / 8 = 1 by omega], rowStart_eight, baseRow]; omega

end Trip

/-- One row's step over the table itself. -/
def rowStep (fp : PBuf F) (v : BitVec 32) (r : ℕ) (acc : FVec F S16 .f32) : FVec F S16 .f32 :=
  addf acc (select (cmpi .eq laneIds (broadcast S16 (laneOf v)))
    (addf (mulf (broadcast S16 (Named.named κ "redistributed_minus_confidence" 0xBF666633#32))
        (fun l : S16.Idx => pAt fp r (v.toNat / 128 * 128 + (v.toNat % 128 / 16 * 16 + l 0))))
      (broadcast S16 (Named.named κ "row_entropy" 0xBFAEB1B0#32)))
    (broadcast S16 (Scalar.ofBits .f32 0x00000000#32)))

/-- The accumulator after `n` rows from row `b`, of the tokens `tok`. -/
def rowsAcc (fp : PBuf F) (tok : ℕ → BitVec 32) (b : ℕ) : ℕ → FVec F S16 .f32
  | 0 => k0_pay1
  | n + 1 => rowStep fp (tok n) (b + n) (rowsAcc fp tok b n)

/-- Token `r` of the tile's 128, converted. -/
def tileTok (f6 : TBuf F) (r : ℕ) : BitVec 32 := FloatOps.fptosi 32 (f6 (ValueIdx.ix1 (Fin.ofNat 128 r)))

theorem word_eq (t : Fin k0_t1_loop.trips) (f6 : TBuf F) (k : ℕ) (hk : k < 16) : word t f6 k hk = tileTok f6 (16 * t.val + k) := by
  have ht : t.val < 8 := t.isLt
  unfold word words tileTok k0_pay4
  rw [show shapeCast S16 (tgtM.view.readAt (Elt F) (Rect.unit (s := S128) (k0_off2 t) S16.size (k0_off2_inb t)).toLoadRect f6) shapeCasts_S16_S16
      = tgtM.view.readAt (Elt F) (Rect.unit (s := S128) (k0_off2 t) S16.size (k0_off2_inb t)).toLoadRect f6 from
    funext fun j => congrArg _ (Shape.reshapeEquiv_self shapeCasts_S16_S16 j)]
  show FloatOps.fptosi 32 (f6 _) = FloatOps.fptosi 32 (f6 _)
  congr 2
  funext a
  apply Fin.ext
  refine (ValueKit.rect_emb_unit_val (s := S128) _ _ _ _ a).trans ?_
  match a with
  | 0 =>
    show k0_off2 t 0 + (k + 0) = (16 * t.val + k) % 128
    rw [k0_off2_eq]
    show 16 * t.val + (k + 0) = _
    rw [Nat.mod_eq_of_lt (by omega)]; rfl

theorem step_lanes (L : grid0.Coords) (t : Fin k0_t1_loop.trips) (fp : PBuf F) (f6 : TBuf F) (f7 : GBuf F)
    (hw : ∀ k hk, (word t f6 k hk).toNat < 32768) (k : ℕ) (hk : k < 16) (acc : FVec F S16 .f32) :
    step (word t f6 k hk) (lanes L t fp f6 f7 hw k hk) acc
      = rowStep fp (tileTok f6 (16 * t.val + k)) (baseRow L + (16 * t.val + k)) acc := by
  unfold step rowStep
  have hx : (shapeCast S16 (lanes L t fp f6 f7 hw k hk) shapeCasts_S1x1x16_S16 : FVec F S16 .f32)
      = fun l : S16.Idx => pAt fp (baseRow L + (16 * t.val + k))
          ((word t f6 k hk).toNat / 128 * 128 + ((word t f6 k hk).toNat % 128 / 16 * 16 + l 0)) := by
    funext l
    show lanes L t fp f6 f7 hw k hk (Shape.reshapeEquiv shapeCasts_S1x1x16_S16 l) = _
    rw [lanes_at, rowStart_half L t k hk, colStart_toNat (hw k hk), laneStart_toNat]
    have hr : Shape.reshapeEquiv shapeCasts_S1x1x16_S16 l = ValueIdx.ix3 (⟨0, Nat.one_pos⟩ : Fin 1) (⟨0, Nat.one_pos⟩ : Fin 1) (l 0) :=
      Shape.reshapeEquiv_eq_of_rowMajor _ (by
        refine (Shape.rowMajor_val_three (d := ![1, 1, 16]) _).trans (Eq.trans ?_ (Shape.rowMajor_val_one (d := ![16]) l).symm)
        show ((0 * 1 + 0) * 16 + (l 0 : ℕ)) = l 0
        omega)
    rw [hr]
  rw [hx, word_eq]

/-- A trip carries the fold sixteen rows on. -/
theorem accAfter_rows (L : grid0.Coords) (t : Fin k0_t1_loop.trips) (fp : PBuf F) (f6 : TBuf F) (f7 : GBuf F)
    (hw : ∀ k hk, (word t f6 k hk).toNat < 32768) (n : ℕ) (hn : n ≤ 16) :
    accAfter L t fp f6 f7 hw (rowsAcc fp (tileTok f6) (baseRow L) (16 * t.val)) n hn
      = rowsAcc fp (tileTok f6) (baseRow L) (16 * t.val + n) := by
  induction n with
  | zero => rfl
  | succ n ih =>
    show step _ _ (accAfter L t fp f6 f7 hw _ n _) = rowStep _ _ _ (rowsAcc _ _ _ (16 * t.val + n))
    rw [ih (Nat.le_of_succ_le hn)]
    exact step_lanes L t fp f6 f7 hw n hn _

end Cert.Proof

end
-- ==== Proof.Tile.lean ====
/-
  One tile's task: fetch its 128 tokens, run the gather's eight trips, and write its sixteen sums to its row of the
  result. The row it leaves is `sums` of the table and the tokens.
-/
module

public import proofs.«01_k».proof.Proof.Chunk
public import proofs.«01_k».proof.Proof.Rows

@[expose] public section

noncomputable section

namespace Cert.Proof

open Cert.KernelIdeal Cert.KernelIdeal.Gen
open Idealize.ShloMosaic
open Idealize.ShloMosaic.SparseCore (V)
open Idealize.ShloMosaic.SparseCore.Cfg (HIx ownBufs ownSems0 ownCells ownRefs mem_ownCells mem_ownRefs)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Tactic

variable {F : FTy → Type} [FloatOps F] [Named F]

local notation "𝕄" => MT nD τ sig (HIx 1) (Elt F) ℕ UU ℕ

/-! ## The rows a tile is given -/

abbrev tokRect (L : grid0.Coords) : Rect S4096 := Rect.unit (s := S4096) (k0_off1 L) S128.size (k0_off1_inb L)
abbrev outRect (L : grid0.Coords) : Rect S32x16 := Rect.unit (s := S32x16) (k0_off50 L) S1x16.size (k0_off50_inb L)
/-- The tile's 128 tokens, -/
abbrev tokW (L : grid0.Coords) : Memref sig .scVector .hbm S128 .f32 := tokM.slice (tokRect L) (fun _ => rfl)
/-- and its row of the result. -/
abbrev outW (L : grid0.Coords) : Memref sig .scVector .hbm S16 .f32 := (outM.slice (outRect L) (fun _ => rfl)).squeeze S16 squeezes_S1x16_S16

abbrev TokBuf (F : FTy → Type) : Type := (tokM : Memref sig .scVector .hbm S4096 .f32).view.ty.Contents (Elt F)
abbrev OutBuf (F : FTy → Type) : Type := (outM : Memref sig .scVector .hbm S32x16 .f32).view.ty.Contents (Elt F)

/-- Token `r` of the 4096, converted. -/
def tokRow (ft : TokBuf F) (r : ℕ) : BitVec 32 := FloatOps.fptosi 32 (ft (ValueIdx.ix1 (Fin.ofNat 4096 r)))

/-- The result of the gather: row `w` holds the sums of the 128 rows from row `128 w`, spread over sixteen lanes. -/
def sums (fp : PBuf F) (ft : TokBuf F) : OutBuf F := fun i =>
  rowsAcc fp (fun r => tokRow ft (128 * (i 0).val + r)) (128 * (i 0).val) 128 (ValueIdx.ix1 (i 1))

section Tile

variable (d : Dev nD) (L : grid0.Coords)

abbrev cAcell : GSem nD τ sig := (V d (cV L) (jV L), .dma cc0_scoped0.sem)
abbrev cBcell : GSem nD τ sig := (V d (cV L) (jV L), .dma cc0_scoped1.sem)
abbrev cGcell : GSem nD τ sig := (V d (cV L) (jV L), .dma cc0_scratch5.sem)

omit [FloatOps F] [Named F] in
theorem ownSems0_tile :
    (ownSems0 (V d (cV L) (jV L)) : sProp 𝕄)
      = iprop(semVal (cAcell d L) 0 ∗ semVal (cBcell d L) 0 ∗ semVal (cGcell d L) 0
          ∗ bigSep ((((ownCells (V d (cV L) (jV L))).erase (cAcell d L)).erase (cBcell d L)).erase (cGcell d L)) fun g => semVal g 0) := by
  unfold SparseCore.Cfg.ownSems0
  rw [SparseCore.bigSep_erase' ((mem_ownCells (g := cAcell d L)).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scoped1.sem : SemLoc sig).isScoped .scVector = true; decide⟩⟩),
    SparseCore.bigSep_erase' (Finset.mem_erase.mpr ⟨by simp [cBcell, cGcell]; decide, Finset.mem_erase.mpr ⟨by simp [cAcell, cGcell]; decide,
      (mem_ownCells (g := cGcell d L)).mpr ⟨rfl, by show (SemLoc.dma cc0_scratch5.sem : SemLoc sig).isScoped .scVector = true; decide⟩⟩⟩)]

omit [FloatOps F] [Named F] in
/-- The tile's buffers the task uses, each at some contents, and the others. -/
theorem ownBufs_tile :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch4 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch4))
              fun b => iprop(∃ f, ((d, b) : Loc nD τ sig) ↦{fullShare} f)) := by
  have hne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨hne (show (cc0_scratch4 : Ref sig .scVector) ≠ cc0_scratch2 by decide),
      Finset.mem_erase.mpr ⟨hne (show (cc0_scratch4 : Ref sig .scVector) ≠ cc0_scratch1 by decide),
      Finset.mem_erase.mpr ⟨hne (show (cc0_scratch4 : Ref sig .scVector) ≠ cc0_scratch0 by decide),
      SparseCore.Cfg.mem_ownRefs_of_owner (p := Proc.scVector (cV L) (jV L)) (b := (Proc.scVector (cV L) (jV L)).devRef cc0_scratch4) rfl⟩⟩⟩)]

omit [FloatOps F] [Named F] in
/-- The table read at `q` is one share kept, one more, and sixteen for the copies. -/
theorem table_shares (q : PosShare TreeShare) (fp : Buf (Elt F) (pLoc d)) :
    (pLoc d ↦{q} fp : sProp 𝕄) ⊣⊢ iprop((pLoc d ↦{Transfers.shareDrop q 17} fp) ∗ (pLoc d ↦{Transfers.shareTokN q 0} fp) ∗ readShares d L q fp) := by
  have h := Transfers.pointsTo_toks_range (Val := Elt F) (Ix := HIx 1) (Lvl := ℕ) (Name := ℕ) (U := UU) (ℓ := pLoc d) (S := Finset.univ) (f := fp) q 17
  have hs : ∀ k, (BI.bigSep (Finset.range (k + 1)) (fun i => (pLoc d ↦{Transfers.shareTokN q i} fp : sProp 𝕄)))
      = iprop((pLoc d ↦{Transfers.shareTokN q k} fp) ∗ BI.bigSep (Finset.range k) (fun i => (pLoc d ↦{Transfers.shareTokN q i} fp : sProp 𝕄))) := fun k => by
    rw [Finset.range_add_one]; exact SparseCore.bigSep_insert' Finset.notMem_range_self
  rw [hs 16, hs 15, hs 14, hs 13, hs 12, hs 11, hs 10, hs 9, hs 8, hs 7, hs 6, hs 5, hs 4, hs 3, hs 2, hs 1, hs 0, Finset.range_zero, BI.bigSep_empty] at h
  unfold readShares
  refine ⟨h.1.trans ?_, BIBase.Entails.trans ?_ h.2⟩
  · iintro ⟨Hd, H16, H15, H14, H13, H12, H11, H10, H9, H8, H7, H6, H5, H4, H3, H2, H1, H0, -⟩
    iframe
  · iintro ⟨Hd, H0, H1, H2, H3, H4, H5, H6, H7, H8, H9, H10, H11, H12, H13, H14, H15, H16⟩
    iframe
    iempintro

/-- What the loop keeps: the tokens fetched, the word and staging buffers at some contents, the table's shares, the
    semaphore at zero; the accumulator is the fold over the rows of the trips made. -/
def inv (q : PosShare TreeShare) (fp : Buf (Elt F) (pLoc d)) (f6 : TBuf F) (O : CellTallies nD τ sig (HIx 1))
    (n : ℕ) (acc : FVec F S16 .f32) : sProp 𝕄 :=
  iprop(⌜acc = rowsAcc fp (tileTok f6) (baseRow L) (16 * n)⌝
    ∗ (tgtM.view.loc (V d (cV L) (jV L)) ↦{fullShare} f6) ∗ (∃ f5, wordM.view.loc (V d (cV L) (jV L)) ↦{fullShare} f5)
    ∗ (∃ f7, tileM.view.loc (V d (cV L) (jV L)) ↦{fullShare} f7) ∗ readShares d L q fp
    ∗ semVal (cGcell d L) 0
    ∗ Transfers.MayWaits (V d (cV L) (jV L)) (default : HIx 1) O ∗ ∃ W', owes (V d (cV L) (jV L)) O W')

/-- The tile's tokens once fetched. -/
def fetched (ft : TokBuf F) : TBuf F := fun i => ft (ValueIdx.ix1 (Fin.ofNat 4096 (baseRow L + (i 0).val)))

omit [Named F] in
theorem fetched_eq (ft : TokBuf F) (f6 : TBuf F) :
    fetched L ft = View.write (Elt F) tgtM.view f6 ((tokW L).view.read (Elt F) ft) Finset.univ := by
  funext i
  have hL0 : (L 0).val < 2 := (L 0).isLt
  have hL1 : (L 1).val < 16 := (L 1).isLt
  have hi : (i 0).val < 128 := (i 0).isLt
  refine Eq.trans ?_ ((tgtM.view.write_emb_of_mem f6 _ (Finset.mem_univ i)).symm)
  show ft _ = ft _
  congr 1
  funext a
  apply Fin.ext
  refine Eq.trans ?_ (ValueKit.view_emb_slice_whole_unit_val main_v0_scv (k0_off1 L) S128.size (k0_off1_inb L) i a).symm
  match a with
  | 0 =>
    show (baseRow L + (i 0).val) % 4096 = k0_off1 L 0 + (i 0).val
    rw [k0_off1_eq]
    show (baseRow L + (i 0).val) % 4096 = 256 * (L 1).val + 128 * (L 0).val + (i 0).val
    unfold baseRow
    exact Nat.mod_eq_of_lt (by omega)

/-- The words of a trip are tokens, below the vocabulary's size. -/
theorem words_fetched (t : Fin k0_t1_loop.trips) (ft : TokBuf F) (htok : ∀ r, (tokRow ft r).toNat < 32768) (j : S16.Idx) :
    (k0_pay4 (tgtM.view.readAt (Elt F) (Rect.unit (s := S128) (k0_off2 t) S16.size (k0_off2_inb t)).toLoadRect (fetched L ft)) j).toNat < 32768 := by
  exact htok _

/-- The tile's fold over its own 128 tokens is the whole tokens'. -/
theorem rowsAcc_fetched (fp : PBuf F) (ft : TokBuf F) (n : ℕ) (hn : n ≤ 128) :
    rowsAcc fp (tileTok (fetched L ft)) (baseRow L) n = rowsAcc fp (fun r => tokRow ft (baseRow L + r)) (baseRow L) n := by
  induction n with
  | zero => rfl
  | succ n ih =>
    show rowStep fp (tileTok (fetched L ft) n) _ _ = rowStep fp _ _ _
    rw [ih (Nat.le_of_succ_le hn)]
    congr 1
    show FloatOps.fptosi 32 (ft (ValueIdx.ix1 (Fin.ofNat 4096 (baseRow L + n % 128)))) = FloatOps.fptosi 32 (ft (ValueIdx.ix1 (Fin.ofNat 4096 (baseRow L + n))))
    rw [Nat.mod_eq_of_lt (Nat.lt_of_succ_le hn)]

/-- What the tile writes to its row is the row of `sums`. -/
theorem out_eq (fp : Buf (Elt F) (pLoc d)) (ft : Buf (Elt F) (fLoc d)) (fo : Buf (Elt F) (oLoc d)) (f9 : (accM : Memref sig .scVector .vmem S16 .f32).view.ty.Contents (Elt F))
    (acc : FVec F S16 .f32) (ha : acc = rowsAcc fp (tileTok (fetched L ft)) (baseRow L) (16 * 8)) :
    ((outW L).view.loc (V d (cV L) (jV L)) ↦[(outW L).view.set]{fullShare}
      (outW L).view.writes (Elt F) fo [⟨Rect.whole S16, accM.view.read (Elt F) (accM.view.writes (Elt F) f9 [⟨Rect.unit (s := S16) ![0] S16.size inb_S16_S16_0, k0_pay3 acc⟩])⟩] : sProp 𝕄)
      = (oLoc d ↦[(outW L).view.set]{fullShare} sums fp ft) := by
  refine pointsTo_congr fun i hi => ?_
  obtain ⟨y, -, rfl⟩ := Finset.mem_map.mp hi
  have h1 : (outW L).view.read (Elt F) ((outW L).view.writes (Elt F) fo [⟨Rect.whole S16, accM.view.read (Elt F)
      (accM.view.writes (Elt F) f9 [⟨Rect.unit (s := S16) ![0] S16.size inb_S16_S16_0, k0_pay3 acc⟩])⟩]) y = acc y := by
    refine ((outW L).view.read_writes_cons_hit fo (Rect.whole S16) _ [] y y (Rect.emb_whole_apply S16 y)).trans ?_
    refine (accM.view.read_writes_cons_hit f9 _ _ [] y y ?_).trans (congrArg acc (Shape.reshapeEquiv_self shapeCasts_S16_S16 y))
    funext a; apply Fin.ext
    refine (ValueKit.rect_emb_unit_val (s := S16) _ _ _ y a).trans ?_
    match a with
    | 0 => exact Nat.zero_add _
  refine Eq.trans h1 ?_
  have e0 : ((outW L).view.emb y 0 : ℕ) = 2 * (L 1).val + (L 0).val := by
    have hr : ((Shape.reshapeEquiv squeezes_S1x16_S16.numel_eq y) 0 : ℕ) = 0 :=
      Nat.lt_one_iff.mp ((Shape.reshapeEquiv squeezes_S1x16_S16.numel_eq y) 0).isLt
    refine Eq.trans (ValueKit.view_emb_slice_whole_unit_val main_v1_scv (k0_off50 L) S1x16.size (k0_off50_inb L)
      (Shape.reshapeEquiv squeezes_S1x16_S16.numel_eq y) 0) ?_
    show k0_off50 L 0 + _ = _
    rw [hr, k0_off50_eq]; rfl
  have e1 : ((outW L).view.emb y 1) = y 0 := by
    apply Fin.ext
    refine Eq.trans (ValueKit.view_emb_slice_whole_unit_val main_v1_scv (k0_off50 L) S1x16.size (k0_off50_inb L)
      (Shape.reshapeEquiv squeezes_S1x16_S16.numel_eq y) 1) ?_
    have hr : Shape.reshapeEquiv squeezes_S1x16_S16.numel_eq y = ValueIdx.ix2 (⟨0, Nat.one_pos⟩ : Fin 1) (y 0) :=
      Shape.reshapeEquiv_eq_of_rowMajor _ (by
        refine (Shape.rowMajor_val_two (d := ![1, 16]) _).trans (Eq.trans ?_ (Shape.rowMajor_val_one (d := ![16]) y).symm)
        show 0 * 16 + (y 0 : ℕ) = y 0
        omega)
    rw [hr]
    exact (congrArg (· + (y 0 : ℕ)) (congrFun (k0_off50_eq L) 1)).trans (Nat.zero_add _)
  show acc y = rowsAcc fp (fun r => tokRow ft (128 * ((outW L).view.emb y 0 : ℕ) + r)) (128 * ((outW L).view.emb y 0 : ℕ)) 128 (ValueIdx.ix1 ((outW L).view.emb y 1))
  rw [e0, e1, show 128 * (2 * (L 1).val + (L 0).val) = baseRow L by unfold baseRow; omega, ← rowsAcc_fetched L fp ft 128 (le_refl _), ha]
  congr 1
  funext a
  match a with
  | 0 => rfl

theorem tile_run (hF : (K (F := F)).Facts) (q : PosShare TreeShare) (fp : Buf (Elt F) (pLoc d)) (ft : Buf (Elt F) (fLoc d)) (fo : Buf (Elt F) (oLoc d))
    (htok : ∀ r, (tokRow ft r).toNat < 32768) (O : CellTallies nD τ sig (HIx 1)) (W : Waits sig (HIx 1)) (hO : ∀ g, O g none = 0) :
    (iprop(levAts (K (F := F)).L (K (F := F)).lev ∗ emp
        ∗ ((pLoc d ↦{q} fp) ∗ (fLoc d ↦[(tokW L).view.set]{fullShare} ft) ∗ (oLoc d ↦[(outW L).view.set]{fullShare} fo))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_sc_gather L pM (Memref.isWhole_whole _) tokM (Memref.isWhole_whole _) outM (Memref.isWhole_whole _)
            wordM (Memref.isWhole_whole _) tgtM (Memref.isWhole_whole _) tileM (Memref.isWhole_whole _) colM (Memref.isWhole_whole _)
            accM (Memref.isWhole_whole _) cc0_scratch5 cc0_scoped0 cc0_scoped1)
          fun _ => iprop(((pLoc d ↦{q} fp) ∗ (fLoc d ↦[(tokW L).view.set]{fullShare} ft) ∗ (oLoc d ↦[(outW L).view.set]{fullShare} sums fp ft))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_tile, ownBufs_tile]
  rw [cc0_sc_gather_eq_skeleton]
  unfold cc0_sc_gather_skel
  iintro ⟨#Hlv, -, ⟨Hp, Ht, Ho⟩, ⟨⟨%f5, H5⟩, ⟨%f6, H6⟩, ⟨%f7, H7⟩, ⟨%f9, H9⟩, Hbufs⟩, ⟨HsemA, HsemB, HsemG, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (show (fLoc d ↦[(tokW L).view.set]{fullShare} ft : sProp 𝕄) ⊢ (tokW L).view.loc (V d (cV L) (jV L)) ↦[(tokW L).view.set]{fullShare} ft from BI.Entails.refl _) $$ Ht
  ihave Ho' := (show (oLoc d ↦[(outW L).view.set]{fullShare} fo : sProp 𝕄) ⊢ (outW L).view.loc (V d (cV L) (jV L)) ↦[(outW L).view.set]{fullShare} fo from BI.Entails.refl _) $$ Ho
  ihave H5' := (show ((V d (cV L) (jV L)).loc cc0_scratch0 ↦{fullShare} f5 : sProp 𝕄) ⊢ wordM.view.loc (V d (cV L) (jV L)) ↦{fullShare} f5 from BI.Entails.refl _) $$ H5
  ihave H6' := (show ((V d (cV L) (jV L)).loc cc0_scratch1 ↦{fullShare} f6 : sProp 𝕄) ⊢ tgtM.view.loc (V d (cV L) (jV L)) ↦{fullShare} f6 from BI.Entails.refl _) $$ H6
  ihave H7' := (show ((V d (cV L) (jV L)).loc cc0_scratch2 ↦{fullShare} f7 : sProp 𝕄) ⊢ tileM.view.loc (V d (cV L) (jV L)) ↦{fullShare} f7 from BI.Entails.refl _) $$ H7
  ihave H9' := (show ((V d (cV L) (jV L)).loc cc0_scratch4 ↦{fullShare} f9 : sProp 𝕄) ⊢ accM.view.loc (V d (cV L) (jV L)) ↦{fullShare} f9 from BI.Entails.refl _) $$ H9
  ihave Hp' := (table_shares (F := F) d L q fp).1 $$ Hp
  icases Hp' with ⟨Hd, H0, Hp⟩
  sl_exec
  ihave H6 := (show (tgtM.view.loc (V d (cV L) (jV L)) ↦{fullShare} View.write (Elt F) tgtM.view f6 (tile_run.sl.dma0 d L ft) Finset.univ : sProp 𝕄)
    ⊢ tgtM.view.loc (V d (cV L) (jV L)) ↦{fullShare} fetched L ft from Entails.of_eq (by rw [fetched_eq]; rfl)) $$ H6'
  sl_for (inv d L q fp (fetched L ft) O) $$ [H6 H5' H7' Hp HsemG Hmw HO]
  case region =>
    intro k acc
    unfold inv
    iintro ⟨%ha, H6, ⟨%f5, H5⟩, ⟨%f7, H7⟩, Hp, Hs, Hmw, %W', HO⟩
    iapply (wp_wand_r Idealize.ShloMosaic.frame (wpE (defs₀ (F := F)) 𝒱₀ (V d (cV L) (jV L)) none) Set.univ)
    isplitl [H6 H5 H7 Hp Hs Hmw HO]
    · iapply (chunk_run (F := F) d L k acc _ q fp f5 (fetched L ft) f7 O W' trivial (words_fetched L k ft htok))
      isplitl [H6]; · iexact H6
      isplitl [H5]; · iexact H5
      isplitl [H7]; · iexact H7
      isplitl [Hp]; · iexact Hp
      isplitl [Hs]; · iexact Hs
      isplitl [Hmw]; · iexact Hmw
      iexact HO
    iintro %a ⟨%hq, H6, H5, H7, Hp, Hs, Hmw, HO⟩
    isplitr
    · ipureintro
      rw [hq, ha]; exact accAfter_rows L k fp (fetched L ft) f7 _ 16 (le_refl _)
    isplitl [H6]; · iexact H6
    isplitl [H5]; · iexact H5
    isplitl [H7]; · iexact H7
    isplitl [Hp]; · iexact Hp
    isplitl [Hs]; · iexact Hs
    isplitl [Hmw]; · iexact Hmw
    iexists _; iexact HO
  · unfold inv
    isplitr
    · ipureintro; rfl
    isplitl [H6]; · iexact H6
    isplitl [H5']; · iexists _; iexact H5'
    isplitl [H7']; · iexists _; iexact H7'
    isplitl [Hp]; · iexact Hp
    isplitl [HsemG]; · iexact HsemG
    isplitl [Hmw]; · iexact Hmw
    iexists _; iexact HO
  iintro %acc HI
  unfold inv
  icases HI with ⟨%ha, H6, H5, H7, Hp, HsemG, Hmw, %W', HO⟩
  sl_exec
  rw [wp_ret]; imodintro
  isplitl [Hd H0 Hp Ht' Ho']
  · isplitl [Hd H0 Hp]
    · iapply (table_shares (F := F) d L q fp).2
      isplitl [Hd]; · iexact Hd
      isplitl [H0]; · iexact H0
      iexact Hp
    isplitl [Ht']; · iexact Ht'
    iapply (Entails.of_eq (out_eq (F := F) d L fp ft fo f9 acc ha))
    iexact Ho'
  isplitl [H5 H6 H7 H9' Hbufs]
  · isplitl [H5]; · iexact H5
    isplitl [H6]; · iexists _; iexact H6
    isplitl [H7]; · iexact H7
    isplitl [H9']; · iexists _; iexact H9'
    iexact Hbufs
  isplitl [HsemA HsemB HsemG Hsems]
  · isplitl [HsemA]; · iexact HsemA
    isplitl [HsemB]; · iexact HsemB
    isplitl [HsemG]; · iexact HsemG
    iexact Hsems
  iexists _; isplitr
  swap; · iexact HO
  ipureintro; intro p _
  rcases p.2 with _ | x
  · exact .inr (.inl rfl)
  · exact .inr (.inr (congrArg some (Subsingleton.elim x 0)))

end Tile

end Cert.Proof

end
-- ==== Proof.Call.lean ====
/-
  The SparseCore call: what its handshakes carry, its tasks, and how the three arrays it works on split among the
  thirty-two tiles and come back whole. Every tile reads the table under a share of its own, holds its own 128 tokens
  and its own row of the result, and gives them back with the row at `sums`.
-/
module

public import proofs.«01_k».proof.Proof.Tile

@[expose] public section

noncomputable section

namespace Cert.Proof

open Cert.KernelIdeal Cert.KernelIdeal.Gen
open Idealize.ShloMosaic
open Idealize.ShloMosaic.SparseCore (V)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Tactic

variable {F : FTy → Type} [FloatOps F] [Named F]

local notation "𝕄" => MT nD τ sig (HIx 1) (Elt F) ℕ UU ℕ

/-! ## The tiles -/

/-- The grid point of tile `s` of SparseCore `c`. -/
def tileOn (c : Fin (grid0.bound 0)) (s : Fin (grid0.bound 1)) : grid0.Coords :=
  fun | 0 => c | 1 => s | ⟨_ + 2, h⟩ => absurd h (Nat.not_lt.2 (Nat.le_add_left _ _))

/-- The tile's number among the thirty-two, which is the row of the result it writes. -/
def tileNo (L : grid0.Coords) : ℕ := 2 * (L 1).val + (L 0).val

theorem tileNo_inj (c c' : Fin 2) (i i' : Fin 16) (h : tileNo (tileOn c i) = tileNo (tileOn c' i')) : (c, i) = (c', i') := by
  have e : 2 * i.val + c.val = 2 * i'.val + c'.val := h
  have h1 : c = c' := Fin.ext (by omega)
  have h2 : i = i' := Fin.ext (by omega)
  rw [h1, h2]

theorem mem_tokens (L : grid0.Coords) (x : S4096.Idx) : x ∈ (tokW L).view.set ↔ (x 0).val / 128 = tileNo L := by
  have e : (tokW L).view.set = (tokRect L).set := by
    show ((View.whole (main_v0_scv : Ref sig .scVector)).slice (tokRect L)).set = _
    rw [View.set_slice]; exact Finset.map_refl
  have hL : k0_off1 L 0 = 256 * (L 1).val + 128 * (L 0).val := congrFun (k0_off1_eq L) 0
  rw [e, Rect.mem_set_unit]
  constructor
  · intro h
    have h0 : k0_off1 L 0 ≤ (x 0).val ∧ (x 0).val < k0_off1 L 0 + 128 := h 0
    unfold tileNo; omega
  · intro h a
    match a with
    | 0 =>
      show k0_off1 L 0 ≤ (x 0).val ∧ (x 0).val < k0_off1 L 0 + 128
      unfold tileNo at h; omega

theorem mem_row (L : grid0.Coords) (x : S32x16.Idx) : x ∈ (outW L).view.set ↔ (x 0).val = tileNo L := by
  have e : (outW L).view.set = (outRect L).set := by
    show (((View.whole (main_v1_scv : Ref sig .scVector)).slice (outRect L)).reshape S16 _).set = _
    rw [View.set_reshape, View.set_slice]; exact Finset.map_refl
  have h0 : k0_off50 L 0 = 2 * (L 1).val + (L 0).val := congrFun (k0_off50_eq L) 0
  have h1 : k0_off50 L 1 = 0 := congrFun (k0_off50_eq L) 1
  have hx : (x 1).val < 16 := (x 1).isLt
  rw [e, Rect.mem_set_unit]
  constructor
  · intro h
    have h2 : k0_off50 L 0 ≤ (x 0).val ∧ (x 0).val < k0_off50 L 0 + 1 := h 0
    unfold tileNo; omega
  · intro h a
    unfold tileNo at h
    match a with
    | 0 => show k0_off50 L 0 ≤ (x 0).val ∧ (x 0).val < k0_off50 L 0 + 1; omega
    | 1 => show k0_off50 L 1 ≤ (x 1).val ∧ (x 1).val < k0_off50 L 1 + 16; omega

/-- The tile of a number. -/
def tileOf (p : Fin 2 × Fin 16) : grid0.Coords := tileOn p.1 p.2

theorem tile_of_number (w : ℕ) (hw : w < 32) : ∃ p : Fin 2 × Fin 16, tileNo (tileOf p) = w :=
  ⟨(⟨w % 2, by omega⟩, ⟨w / 2, by omega⟩), by show 2 * (w / 2) + w % 2 = w; omega⟩

/-- A family over an index set cut by the tile's number: disjoint, and all of it when every number is below thirty-two. -/
theorem cut_disjoint {I : Type} [DecidableEq I] (S : Fin 2 × Fin 16 → Finset I) (num : I → ℕ)
    (hS : ∀ p x, x ∈ S p ↔ num x = tileNo (tileOf p)) :
    ∀ p ∈ (Finset.univ : Finset (Fin 2 × Fin 16)), ∀ q ∈ (Finset.univ : Finset (Fin 2 × Fin 16)), p ≠ q → Disjoint (S p) (S q) := by
  intro p _ q _ hpq
  refine Finset.disjoint_left.mpr fun x hp hq => hpq ?_
  exact tileNo_inj p.1 q.1 p.2 q.2 (((hS p x).mp hp).symm.trans ((hS q x).mp hq))

theorem cut_cover {I : Type} [DecidableEq I] [Fintype I] (S : Fin 2 × Fin 16 → Finset I) (num : I → ℕ)
    (hS : ∀ p x, x ∈ S p ↔ num x = tileNo (tileOf p)) (hnum : ∀ x, num x < 32) :
    (Finset.univ : Finset (Fin 2 × Fin 16)).biUnion S = Finset.univ := by
  refine Finset.eq_univ_iff_forall.mpr fun x => ?_
  obtain ⟨p, hp⟩ := tile_of_number (num x) (hnum x)
  exact Finset.mem_biUnion.mpr ⟨p, Finset.mem_univ p, (hS p x).mpr hp.symm⟩

/-! ## What the handshakes carry -/

variable (m : (ℓ : Loc nD τ sig) → Buf (Elt F) ℓ)

/-- The tokens as floats, the call's second operand. -/
abbrev floatTokens (d : Dev nD) : Buf (Elt F) (fLoc d) := fun i => FloatOps.sitofp .f32 ((m (tLoc d)) i)

/-- A tile's share of the table. -/
abbrev tableShare (L : grid0.Coords) : PosShare TreeShare := Transfers.shareTokN fullShare (tileNo L)

/-- What a tile's task takes: its share of the table, its tokens, its row of the result at `fo`. -/
abbrev given (d : Dev nD) (fo : Buf (Elt F) (oLoc d)) (L : grid0.Coords) : sProp 𝕄 :=
  iprop((pLoc d ↦{tableShare L} m (pLoc d)) ∗ (fLoc d ↦[(tokW L).view.set]{fullShare} floatTokens m d) ∗ (oLoc d ↦[(outW L).view.set]{fullShare} fo))

/-- The result of the call. -/
abbrev sumsOf (d : Dev nD) : Buf (Elt F) (oLoc d) := sums (m (pLoc d)) (floatTokens m d)

/-- The call's handshakes: each SparseCore is sent what its sixteen tiles are given and sends it back with the rows written. -/
def P : (K (F := F)).Pay (nD := nD) (Val := Elt F) (Name := ℕ) (U := UU) where
  st := fun q d c => match q with | 0 => bigSep Finset.univ fun i : Fin 16 => given m d (m (oLoc d)) (tileOn c i)
  dn := fun q d c => match q with | 0 => bigSep Finset.univ fun i : Fin 16 => given m d (sumsOf m d) (tileOn c i)
  go := fun q d c i => match q with | 0 => given m d (m (oLoc d)) (tileOn c i)
  td := fun q d c i => match q with | 0 => given m d (sumsOf m d) (tileOn c i)
  x := fun _ _ => iprop(emp)

instance P_storable : (P (F := F) m).IsStorable where
  st q d c := match q with
    | 0 => (inferInstance : BI.Storable (upEmb : UEmb _ 𝕄) (bigSep Finset.univ fun i : Fin 16 => given m d (m (oLoc d)) (tileOn c i)))
  dn q d c := match q with
    | 0 => (inferInstance : BI.Storable (upEmb : UEmb _ 𝕄) (bigSep Finset.univ fun i : Fin 16 => given m d (sumsOf m d) (tileOn c i)))
  go q d c i := match q with
    | 0 => (inferInstance : BI.Storable (upEmb : UEmb _ 𝕄) (given m d (m (oLoc d)) (tileOn c i)))
  td q d c i := match q with
    | 0 => (inferInstance : BI.Storable (upEmb : UEmb _ 𝕄) (given m d (sumsOf m d) (tileOn c i)))

theorem vecSplit : (K (F := F)).VecSplit' (P m) 0 := by
  intro d c
  show (bigSep Finset.univ fun i : Fin 16 => given m d (m (oLoc d)) (tileOn c i)) ⊢ |={Set.univ}=> iprop(
      (bigSep Finset.univ fun i : Fin 16 => given m d (m (oLoc d)) (tileOn c i))
      ∗ ((bigSep Finset.univ fun i : Fin 16 => given m d (sumsOf m d) (tileOn c i))
          -∗ (bigSep Finset.univ fun i : Fin 16 => given m d (sumsOf m d) (tileOn c i))))
  iintro H; imodintro
  isplitl [H]; · iexact H
  iintro H; iexact H

/-! ## The tasks -/

theorem defs₀_tile (c : Fin τ.nSC) (s : Fin τ.nSub) :
    defs₀ (F := F) (.scVector c s) 0 ()
      = SparseCore.onTile hcore0 hsub0 (fun c s => cc0_sc_gather (tileOn c s)
          pM (Memref.isWhole_whole _) tokM (Memref.isWhole_whole _) outM (Memref.isWhole_whole _)
          wordM (Memref.isWhole_whole _) tgtM (Memref.isWhole_whole _) tileM (Memref.isWhole_whole _) colM (Memref.isWhole_whole _)
          accM (Memref.isWhole_whole _) cc0_scratch5 cc0_scoped0 cc0_scoped1) ⟨⟩ c s := rfl

/-- Every token, converted to a float and back, names a column. -/
abbrev TokensOk : Prop := ∀ (d : Dev nD) (r : ℕ), (tokRow (floatTokens m d) r).toNat < 32768

theorem tileObl (htok : TokensOk m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact tile_run d (tileOn ⟨_, hci.1⟩ ⟨_, hci.2⟩) hF _ (m (pLoc d)) (floatTokens m d) (m (oLoc d)) (htok d) O W hO

/-! ## The arrays split and join -/

omit [FloatOps F] [Named F] in
/-- A family over the tiles' numbers is the family over the SparseCores and their tiles. -/
theorem bigSep_tiles (Φ : ℕ → sProp 𝕄) :
    bigSep (Finset.range 32) Φ = bigSep Finset.univ fun p : Fin 2 × Fin 16 => Φ (tileNo (tileOf p)) := by
  have e : Finset.range 32 = (Finset.univ : Finset (Fin 2 × Fin 16)).map
      ⟨fun p => tileNo (tileOf p), fun p q h => tileNo_inj p.1 q.1 p.2 q.2 h⟩ := by
    ext w
    simp only [Finset.mem_range, Finset.mem_map, Finset.mem_univ, Function.Embedding.coeFn_mk, true_and]
    exact ⟨tile_of_number w, fun ⟨p, hp⟩ => hp ▸ (show 2 * p.2.val + p.1.val < 32 by have := p.1.isLt; have := p.2.isLt; omega)⟩
  rw [e, bigSep_map]; rfl

/-- The tiles' tokens, -/
def tokSet (p : Fin 2 × Fin 16) : Finset S4096.Idx := (tokW (tileOf p)).view.set
/-- and their rows of the result. -/
def rowSet (p : Fin 2 × Fin 16) : Finset S32x16.Idx := (outW (tileOf p)).view.set

theorem mem_tokSet (p : Fin 2 × Fin 16) (x : S4096.Idx) : x ∈ tokSet p ↔ (x 0).val / 128 = tileNo (tileOf p) := mem_tokens (tileOf p) x
theorem mem_rowSet (p : Fin 2 × Fin 16) (x : S32x16.Idx) : x ∈ rowSet p ↔ (x 0).val = tileNo (tileOf p) := mem_row (tileOf p) x

theorem tokSet_cover : (Finset.univ : Finset (Fin 2 × Fin 16)).biUnion tokSet = Finset.univ :=
  cut_cover tokSet (fun x => (x 0).val / 128) mem_tokSet fun x => by
    have : (x 0).val < 4096 := (x 0).isLt
    show (x 0).val / 128 < 32
    omega
theorem rowSet_cover : (Finset.univ : Finset (Fin 2 × Fin 16)).biUnion rowSet = Finset.univ :=
  cut_cover rowSet (fun x => (x 0).val) mem_rowSet fun x => (x 0).isLt

omit [FloatOps F] [Named F] in
theorem tokens_split (d : Dev nD) (f : Buf (Elt F) (fLoc d)) :
    (fLoc d ↦{fullShare} f : sProp 𝕄) = bigSep Finset.univ fun p : Fin 2 × Fin 16 => fLoc d ↦[tokSet p]{fullShare} f := by
  rw [← pointsTo_biUnion Finset.univ (ℓ := fLoc d) tokSet (cut_disjoint tokSet (fun x => (x 0).val / 128) mem_tokSet), tokSet_cover]

omit [FloatOps F] [Named F] in
theorem rows_split (d : Dev nD) (f : Buf (Elt F) (oLoc d)) :
    (oLoc d ↦{fullShare} f : sProp 𝕄) = bigSep Finset.univ fun p : Fin 2 × Fin 16 => oLoc d ↦[rowSet p]{fullShare} f := by
  rw [← pointsTo_biUnion Finset.univ (ℓ := oLoc d) rowSet (cut_disjoint rowSet (fun x => (x 0).val) mem_rowSet), rowSet_cover]

/-- What the tiles of both SparseCores are given is the shares of the table, the tokens whole, and the result whole. -/
theorem given_all (d : Dev nD) (fo : Buf (Elt F) (oLoc d)) :
    (bigSep Finset.univ fun c : Fin 2 => bigSep Finset.univ fun i : Fin 16 => given m d fo (tileOn c i))
      = iprop((bigSep (Finset.range 32) fun w => pLoc d ↦{Transfers.shareTokN fullShare w} m (pLoc d))
          ∗ (fLoc d ↦{fullShare} floatTokens m d) ∗ (oLoc d ↦{fullShare} fo)) := by
  refine Eq.trans (bigSep_univ_prod (fun p : Fin 2 × Fin 16 => given m d fo (tileOf p))).symm ?_
  rw [tokens_split, rows_split, bigSep_tiles (F := F)]
  refine Eq.trans ?_ (congrArg (fun r => iprop(_ ∗ r)) (bigSep_sep' _ _ _))
  exact bigSep_sep' _ _ _

theorem sent (d : Dev nD) :
    (bigSep Finset.univ fun c : Fin ((K (F := F)).nCore 0) => (P m).st 0 d c)
      = iprop((bigSep (Finset.range 32) fun w => pLoc d ↦{Transfers.shareTokN fullShare w} m (pLoc d))
          ∗ (fLoc d ↦{fullShare} floatTokens m d) ∗ (oLoc d ↦{fullShare} m (oLoc d))) := given_all m d (m (oLoc d))

theorem brought_back (d : Dev nD) :
    (bigSep Finset.univ fun c : Fin ((K (F := F)).nCore 0) => (P m).dn 0 d c)
      = iprop((bigSep (Finset.range 32) fun w => pLoc d ↦{Transfers.shareTokN fullShare w} m (pLoc d))
          ∗ (fLoc d ↦{fullShare} floatTokens m d) ∗ (oLoc d ↦{fullShare} sumsOf m d)) := given_all m d (sumsOf m d)

omit [Named F] [FloatOps F] in
/-- The table is what is kept back and the tiles' shares. -/
theorem table_split (d : Dev nD) (fp : Buf (Elt F) (pLoc d)) :
    (pLoc d ↦{fullShare} fp : sProp 𝕄)
      ⊣⊢ iprop((pLoc d ↦{Transfers.shareDrop fullShare 32} fp) ∗ bigSep (Finset.range 32) fun w => pLoc d ↦{Transfers.shareTokN fullShare w} fp) :=
  Transfers.pointsTo_toks_range fullShare 32

end Cert.Proof

end
-- ==== Proof.RowBlocks.lean ====
/-
  The two TensorCore calls. The first runs over 32 blocks of 128 rows and keeps one running total in scalar memory;
  the second adds the SparseCore's partial sums to that total. For each: the body, from its staging buffers at stated
  contents, runs to its return and leaves the stated contents; the proof data; and the call as a region over the
  arrays of @main.
-/
module

public import proofs.«01_k».proof.Proof.Common
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.Frame
public import Idealize.ShloMosaic.Lib.Pipeline.ValueKit
public import Idealize.ShloMosaic.Lib.VecWindow

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig (HIx 1) (Elt F) ℕ UU ℕ

/-- The first element of each row of a block. -/
def firstCol (x : Vec F S128x32768 .f32) : Vec F S128x1 .f32 :=
  fun j => x ((Rect.unit (s := S128x32768) ![0, 0] S128x1.size inb_S128x32768_S128x1_0_0).toLoadRect.idx j)

/-- What one block of rows adds to the running total: `R` times (its first column's sum less the sum of its rows), over
    the rows whose target is not the padding. -/
def blockTotal (x : Vec F S128x32768 .f32) (t : Vec F S128x1 .i32) : F .f32 := k1_pay1 t x (firstCol x)

omit [FloatOps F] [Named F] in
/-- A whole memref owned at contents is its buffer held whole at something that reads as them. -/
theorem owns_whole_memref (c : Dev nD) {sp : Space} {S : Shape} {e : EltTy} (M : Memref sig .tc sp S e) (h : M.IsWhole) (x : S.Idx → Elt F e) :
    (owns (c : Thread nD τ) M fullShare x : sProp 𝕄) = iprop(∃ f : Buf (Elt F) (M.view.loc (c : Thread nD τ)), ⌜M.view.read (Elt F) f = x⌝ ∗ (M.view.loc (c : Thread nD τ) ↦{fullShare} f)) := by
  unfold owns; rw [h.set_eq_univ]

/-- A one-word block has one index. -/
theorem word_idx (a b : S1x1.Idx) : a = b :=
  funext fun k => match k with
  | 0 => Subsingleton.elim (α := Fin 1) _ _
  | 1 => Subsingleton.elim (α := Fin 1) _ _

omit [FloatOps F] [Named F] in
/-- A whole-block store of one word reads as that word everywhere. -/
theorem read_one_word (M : Memref sig .tc .smem S1x1 .f32) (f : M.view.ty.Contents (Elt F)) (w : F .f32) :
    M.view.read (Elt F) (M.view.writes (Elt F) f [⟨Rect.unit (s := S1x1) ![0, 0] S1x1.size inb_S1x1_S1x1_0_0, fun _ => w⟩]) = fun _ => w := by
  funext y
  refine M.view.read_writes_cons_hit f _ _ [] y y ?_
  exact word_idx _ _

section Bodies

variable (c : Dev nD)

/-- The body at the first block: the total becomes the block's. -/
theorem first_block (i : grid1.Coords) (hi : k1_cond1 i = 1#1) (hi' : ¬ k1_cond2 i = 1#1)
    (M0 : Memref sig .tc .vmem S128x32768 .f32) (h0 : M0.IsWhole) (M1 : Memref sig .tc .vmem S128x1 .i32) (h1 : M1.IsWhole)
    (M2 : Memref sig .tc .smem S1x1 .f32) (h2 : M2.IsWhole) (x0 : Vec F S128x32768 .f32) (x1 : Vec F S128x1 .i32) (x2 : Vec F S1x1 .f32)
    (E : Set ℕ) (Q : PUnit → sProp 𝕄) :
    iprop(owns (c : Thread nD τ) M0 fullShare x0 ∗ owns (c : Thread nD τ) M1 fullShare x1 ∗ owns (c : Thread nD τ) M2 fullShare x2
        ∗ (iprop(owns (c : Thread nD τ) M0 fullShare x0 ∗ owns (c : Thread nD τ) M1 fullShare x1
            ∗ owns (c : Thread nD τ) M2 fullShare (fun _ => blockTotal x0 x1)) -∗ Q ⟨⟩))
      ⊢ wp frame (wpE (defs₀ (F := F)) 𝒱₀ c none) E (cc1__tc_body i M0 h0 M1 h1 M2 h2) Q := by
  rw [cc1__tc_body_eq_skeleton, owns_whole_memref c M0 h0, owns_whole_memref c M1 h1, owns_whole_memref c M2 h2, owns_whole_memref c M2 h2]; unfold cc1__tc_body_skel
  iintro ⟨⟨%f0, %hf0, H0⟩, ⟨%f1, %hf1, H1⟩, ⟨%f2, %hf2, H2⟩, Hk⟩
  sl_exec!
  sl_step
  iapply Hk
  isplitl [H0]; · iexists f0; isplitr; · ipureintro; exact hf0
                  iexact H0
  isplitl [H1]; · iexists f1; isplitr; · ipureintro; exact hf1
                  iexact H1
  iexists _; isplitr; swap; · iexact H2
  ipureintro
  subst hf0 hf1
  sl_unfold_words
  refine (read_one_word M2 _ _).trans ?_
  rw [View.readAt_full, View.readAt_full]
  rfl

/-- The body at a later block: the block's total is added. -/
theorem later_block (i : grid1.Coords) (hi : ¬ k1_cond1 i = 1#1) (hi' : k1_cond2 i = 1#1)
    (M0 : Memref sig .tc .vmem S128x32768 .f32) (h0 : M0.IsWhole) (M1 : Memref sig .tc .vmem S128x1 .i32) (h1 : M1.IsWhole)
    (M2 : Memref sig .tc .smem S1x1 .f32) (h2 : M2.IsWhole) (x0 : Vec F S128x32768 .f32) (x1 : Vec F S128x1 .i32) (a : F .f32)
    (E : Set ℕ) (Q : PUnit → sProp 𝕄) :
    iprop(owns (c : Thread nD τ) M0 fullShare x0 ∗ owns (c : Thread nD τ) M1 fullShare x1 ∗ owns (c : Thread nD τ) M2 fullShare (fun _ => a)
        ∗ (iprop(owns (c : Thread nD τ) M0 fullShare x0 ∗ owns (c : Thread nD τ) M1 fullShare x1
            ∗ owns (c : Thread nD τ) M2 fullShare (fun _ => Scalar.addf a (blockTotal x0 x1))) -∗ Q ⟨⟩))
      ⊢ wp frame (wpE (defs₀ (F := F)) 𝒱₀ c none) E (cc1__tc_body i M0 h0 M1 h1 M2 h2) Q := by
  rw [cc1__tc_body_eq_skeleton, owns_whole_memref c M0 h0, owns_whole_memref c M1 h1, owns_whole_memref c M2 h2, owns_whole_memref c M2 h2]; unfold cc1__tc_body_skel
  iintro ⟨⟨%f0, %hf0, H0⟩, ⟨%f1, %hf1, H1⟩, ⟨%f2, %hf2, H2⟩, Hk⟩
  sl_exec!
  sl_step
  iapply Hk
  isplitl [H0]; · iexists f0; isplitr; · ipureintro; exact hf0
                  iexact H0
  isplitl [H1]; · iexists f1; isplitr; · ipureintro; exact hf1
                  iexact H1
  iexists _; isplitr; swap; · iexact H2
  ipureintro
  subst hf0 hf1
  sl_unfold_words
  refine (read_one_word M2 _ _).trans ?_
  rw [View.readAt_full, View.readAt_full]
  funext _
  exact congrArg (fun z => Scalar.addf z _) (congrFun hf2 _)

/-- The last call's body: the total and the partial sums added up. -/
theorem combine_body (M0 : Memref sig .tc .smem S1x1 .f32) (h0 : M0.IsWhole) (M1 : Memref sig .tc .vmem S32x16 .f32) (h1 : M1.IsWhole)
    (M2 : Memref sig .tc .smem S1x1 .f32) (h2 : M2.IsWhole) (x0 : Vec F S1x1 .f32) (x1 : Vec F S32x16 .f32) (x2 : Vec F S1x1 .f32)
    (E : Set ℕ) (Q : PUnit → sProp 𝕄) :
    iprop(owns (c : Thread nD τ) M0 fullShare x0 ∗ owns (c : Thread nD τ) M1 fullShare x1 ∗ owns (c : Thread nD τ) M2 fullShare x2
        ∗ (iprop(owns (c : Thread nD τ) M0 fullShare x0 ∗ owns (c : Thread nD τ) M1 fullShare x1
            ∗ owns (c : Thread nD τ) M2 fullShare (fun _ => k2_pay1 (x0 (ValueIdx.ix2 0 0)) x1)) -∗ Q ⟨⟩))
      ⊢ wp frame (wpE (defs₀ (F := F)) 𝒱₀ c none) E (cc2__combine_body M0 h0 M1 h1 M2 h2) Q := by
  rw [cc2__combine_body_eq_skeleton, owns_whole_memref c M0 h0, owns_whole_memref c M1 h1, owns_whole_memref c M2 h2, owns_whole_memref c M2 h2]; unfold cc2__combine_body_skel
  iintro ⟨⟨%f0, %hf0, H0⟩, ⟨%f1, %hf1, H1⟩, ⟨%f2, %hf2, H2⟩, Hk⟩
  sl_exec!
  sl_step
  iapply Hk
  isplitl [H0]; · iexists f0; isplitr; · ipureintro; exact hf0
                  iexact H0
  isplitl [H1]; · iexists f1; isplitr; · ipureintro; exact hf1
                  iexact H1
  iexists _; isplitr; swap; · iexact H2
  ipureintro
  subst hf0 hf1
  sl_unfold_words
  refine (read_one_word M2 _ _).trans ?_
  rw [View.readAt_full]
  funext _
  rw [View.readAt_full]
  exact congrArg (fun z => k2_pay1 (M0.view.read (Elt F) f0 z) (M1.view.read (Elt F) f1)) (word_idx _ _)

end Bodies

/-! ## The proof data -/

variable (W : Dev nD → Valuation τ sig (Elt F))

/-- Block `t` of the first table, and of the targets, as the fetch stages them. -/
abbrev rowsBlk (c : Dev nD) (t : Fin cfg1.N) : (cfg1.win 0).block.Idx → Elt F (cfg1.win 0).elt :=
  ((cfg1.win 0).blk t).view.read (Elt F) (W c (Proc.devRef .tc main_arg0))
abbrev tgtBlk (c : Dev nD) (t : Fin cfg1.N) : (cfg1.win 1).block.Idx → Elt F (cfg1.win 1).elt :=
  ((cfg1.win 1).blk t).view.read (Elt F) (W c (Proc.devRef .tc main_v2))

/-- The running total after the first `n + 1` blocks. -/
def totalAt (c : Dev nD) : ℕ → F .f32
  | 0 => blockTotal (rowsBlk W c ⟨0, by rw [show cfg1.N = 32 from N_1]; decide⟩) (tgtBlk W c ⟨0, by rw [show cfg1.N = 32 from N_1]; decide⟩)
  | n + 1 => if h : n + 1 < cfg1.N then Scalar.addf (totalAt c n) (blockTotal (rowsBlk W c ⟨n + 1, h⟩) (tgtBlk W c ⟨n + 1, h⟩)) else totalAt c n

theorem totalAt_pos (c : Dev nD) (t : Fin cfg1.N) (ht : t.val ≠ 0) :
    totalAt W c t.val = Scalar.addf (totalAt W c (t.val - 1)) (blockTotal (rowsBlk W c t) (tgtBlk W c t)) := by
  obtain ⟨n, hn⟩ := t
  obtain ⟨m, rfl⟩ := Nat.exists_eq_succ_of_ne_zero ht
  exact dif_pos hn

abbrev totBlk (c : Dev nD) : (cfg2.win 0).block.Idx → Elt F (cfg2.win 0).elt :=
  ((cfg2.win 0).blk t2_0).view.read (Elt F) (W c (Proc.devRef .tc main_v3))
abbrev partBlk (c : Dev nD) : (cfg2.win 1).block.Idx → Elt F (cfg2.win 1).elt :=
  ((cfg2.win 1).blk t2_0).view.read (Elt F) (W c (Proc.devRef .tc main_v1))

/-- The second call's result: the first's total and the partial sums added up. -/
def combined (c : Dev nD) : F .f32 := k2_pay1 (totBlk W c (ValueIdx.ix2 0 0)) (partBlk W c)

def dat1 (c : Dev nD) : Dat τ (Elt F) (HIx 1) ℕ UU ℕ cfg1 c where
  A w := W c (Proc.devRef .tc (Pipeline.arrRef spec1 w))
  after w t := match w with
    | ⟨0, _⟩ => rowsBlk W c t
    | ⟨1, _⟩ => tgtBlk W c t
    | ⟨2, _⟩ => fun _ => totalAt W c t.val
  Φ _ := Pipeline.scopedRest (Ix := HIx 1) (Name := ℕ) (U := UU) (Lvl := ℕ) (Val := Elt F) spec1 c
  q _ := fullShare
  owed _ := 0

def dat2 (c : Dev nD) : Dat τ (Elt F) (HIx 1) ℕ UU ℕ cfg2 c where
  A w := W c (Proc.devRef .tc (Pipeline.arrRef spec2 w))
  after w _ := match w with
    | ⟨0, _⟩ => totBlk W c
    | ⟨1, _⟩ => partBlk W c
    | ⟨2, _⟩ => fun _ => combined W c
  Φ _ := Pipeline.scopedRest (Ix := HIx 1) (Name := ℕ) (U := UU) (Lvl := ℕ) (Val := Elt F) spec2 c
  q _ := fullShare
  owed _ := 0

variable (adm : (p : Fin 2) → (pcfgs (F := F) p).Adm)

def pdats : (p : Fin 2) → (c : Dev nD) → Dat τ (Elt F) (HIx 1) ℕ UU ℕ (Pipeline.pin (pcfgs (F := F)) adm p) c
  | ⟨0, _⟩ => fun c => dat1 W c
  | ⟨1, _⟩ => fun c => dat2 W c

theorem fetched_rows (c : Dev nD) (t : Fin cfg1.N) (d : (cfg1.win 0).block.Idx → Elt F (cfg1.win 0).elt) : (dat1 W c).before 0 t d = rowsBlk W c t := by
  unfold Dat.before; rw [if_pos (fetch1_0 t)]; rfl

theorem fetched_tgts (c : Dev nD) (t : Fin cfg1.N) (d : (cfg1.win 1).block.Idx → Elt F (cfg1.win 1).elt) : (dat1 W c).before 1 t d = tgtBlk W c t := by
  unfold Dat.before; rw [if_pos (fetch1_1 t)]; rfl

theorem cond1_iff (i : grid1.Coords) : k1_cond1 i = 1#1 ↔ (i 0).val = 0 :=
  (by decide : ∀ n : Fin 32, Scalar.cmpi .ne (Scalar.extui (Scalar.cmpi .eq (BitVec.ofNat 32 n.val) 0#32) : BitVec 32) 0#32 = 1#1 ↔ n.val = 0) (i 0)

theorem cond2_iff (i : grid1.Coords) : k1_cond2 i = 1#1 ↔ (i 0).val ≠ 0 :=
  (by decide : ∀ n : Fin 32, Scalar.cmpi .ne (Scalar.extui (Scalar.cmpi .sgt (BitVec.ofNat 32 n.val) 0#32) : BitVec 32) 0#32 = 1#1 ↔ n.val ≠ 0) (i 0)

/-- At every point one of the two conditions holds: the total is stored at every point. -/
theorem never_idle (i : grid1.Coords) : cfg1.idle 2 i = false := by
  show (!(k1_cond1 i == 1#1) && !(k1_cond2 i == 1#1)) = false
  by_cases h : (i 0).val = 0
  · rw [(cond1_iff i).mpr h]; rfl
  · rw [(cond2_iff i).mpr h]; exact Bool.and_false _

theorem kept_total (c : Dev nD) (t : Fin cfg1.N) (ht : t.val ≠ 0) (d : (cfg1.win 2).block.Idx → Elt F (cfg1.win 2).elt) :
    (dat1 W c).before 2 t d = fun _ => totalAt W c (t.val - 1) := by
  have hN : cfg1.N = 32 := N_1
  have := t.isLt
  refine (Dat.before_out_kept (dat := dat1 W c) 2 rfl t ht ?_ never_idle (fun i a => rfl) d).trans ?_
  · exact Bool.eq_false_iff.mpr fun h => by have := (flush1_2 _).mp h; dsimp only at this; omega
  · dsimp only [dat1]

theorem body1 (c : Dev nD) : BodyObligation (dat1 W c) (defs₀ (F := F)) 𝒱₀ none Set.univ := fun t => by
  have hN : cfg1.N = 32 := N_1
  have ht := t.isLt
  have hco : ((grid1.coords t) 0).val = t.val :=
    (Pipeline.Grid.coords_val t 0 (S := 1) (B := 32) (by decide) rfl).trans (by rw [Nat.div_one]; exact Nat.mod_eq_of_lt (by omega))
  rw [bigSep_W1, bigSep_W1]
  rw [show (dat1 W c).Φ t.castSucc = (dat1 W c).Φ t.succ from rfl,
    show (dat1 W c).owesAt none t.succ = (dat1 W c).owesAt none t.castSucc from rfl]
  iintro ⟨HΦ, Howes, ⟨%d0, H0⟩, ⟨%d1, H1⟩, ⟨%d2, H2⟩⟩
  rw [fetched_rows, fetched_tgts]
  by_cases h0 : t.val = 0
  · iapply (first_block c (grid1.coords t) ((cond1_iff _).mpr (by omega)) (fun h => absurd h0 (by have := (cond2_iff _).mp h; omega))
      (st1_0 t) (hstage1_0 ((cfg1.slots t 0).cast nbuf1_0)) (st1_1 t) (hstage1_1 ((cfg1.slots t 1).cast nbuf1_1)) (st1_2 t) (hstage1_2 ((cfg1.slots t 2).cast nbuf1_2)) (rowsBlk W c t) (tgtBlk W c t) _ Set.univ _)
    isplitl [H0]; · iexact H0
    isplitl [H1]; · iexact H1
    isplitl [H2]; · iexact H2
    iintro ⟨H0, H1, H2⟩
    isplitl [HΦ]; · iexact HΦ
    isplitl [Howes]; · iexact Howes
    isplitl [H0]; · iexact H0
    isplitl [H1]; · iexact H1
    rw [show (dat1 W c).after 2 t = fun _ => blockTotal (rowsBlk W c t) (tgtBlk W c t) from by
      dsimp only [dat1]; obtain ⟨n, hn⟩ := t; obtain rfl : n = 0 := h0; rfl, never_idle]
    iexact H2
  · rw [kept_total W c t h0]
    iapply (later_block c (grid1.coords t) (fun h => h0 (by have := (cond1_iff _).mp h; omega)) ((cond2_iff _).mpr (by omega))
      (st1_0 t) (hstage1_0 ((cfg1.slots t 0).cast nbuf1_0)) (st1_1 t) (hstage1_1 ((cfg1.slots t 1).cast nbuf1_1)) (st1_2 t) (hstage1_2 ((cfg1.slots t 2).cast nbuf1_2)) (rowsBlk W c t) (tgtBlk W c t) _ Set.univ _)
    isplitl [H0]; · iexact H0
    isplitl [H1]; · iexact H1
    isplitl [H2]; · iexact H2
    iintro ⟨H0, H1, H2⟩
    isplitl [HΦ]; · iexact HΦ
    isplitl [Howes]; · iexact Howes
    isplitl [H0]; · iexact H0
    isplitl [H1]; · iexact H1
    rw [show (dat1 W c).after 2 t = fun _ => Scalar.addf (totalAt W c (t.val - 1)) (blockTotal (rowsBlk W c t) (tgtBlk W c t)) from by
      dsimp only [dat1]; exact funext fun _ => totalAt_pos W c t h0, never_idle]
    iexact H2

theorem body2 (c : Dev nD) : BodyObligation (dat2 W c) (defs₀ (F := F)) 𝒱₀ none Set.univ := fun t => by
  obtain rfl := fin_N2 t
  rw [bigSep_W2, bigSep_W2]
  rw [show (dat2 W c).Φ t2_0.castSucc = (dat2 W c).Φ t2_0.succ from rfl,
    show (dat2 W c).owesAt none t2_0.succ = (dat2 W c).owesAt none t2_0.castSucc from rfl]
  iintro ⟨HΦ, Howes, ⟨%d0, H0⟩, ⟨%d1, H1⟩, ⟨%d2, H2⟩⟩
  rw [show (dat2 W c).before 0 t2_0 d0 = (dat2 W c).after 0 t2_0 from by unfold Dat.before; rw [if_pos (fetch2_0 t2_0)]; rfl,
    show (dat2 W c).before 1 t2_0 d1 = (dat2 W c).after 1 t2_0 from by unfold Dat.before; rw [if_pos (fetch2_1 t2_0)]; rfl]
  iapply (combine_body c (st2_0 t2_0) (hstage2_0 0) (st2_1 t2_0) (hstage2_1 0) (st2_2 t2_0) (hstage2_2 0) ((dat2 W c).after 0 t2_0) ((dat2 W c).after 1 t2_0) _ Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-! ## The regions -/

/-- The cut of the levels: a staging wait sits at level zero, and the core owes nothing. -/
theorem level_cut (p : Fin 2) : Pipeline.LevelCut (nD := nD) (pcfgs (F := F)) adm (none : HIx 1) (K (F := F)).L (K (F := F)).lev p (fun _ => 0) (fun _ => 0) where
  hι _ _ _ := Finset.mem_univ _
  hιb _ _ _ := le_refl _
  hD _ _ _ h := absurd h (lt_irrefl _)

variable (W' : Dev nD → Valuation τ sig (Elt F))

theorem loose1 (c : Dev nD) : Pipeline.BodyObligationLoose (dat1 W c) (defs₀ (F := F)) 𝒱₀ none Set.univ := (body1 W c).loose

theorem pdats_0 (c : Dev nD) : pdats W adm 0 c = dat1 W c := rfl

/-- The scoped buffers no window of call 1 stages. -/
abbrev rest1 (c : Dev nD) : sProp 𝕄 := Pipeline.scopedRest (Ix := HIx 1) (Name := ℕ) (U := UU) (Lvl := ℕ) (Val := Elt F) spec1 c

omit [FloatOps F] [Named F] in
theorem rest1_in (c : Dev nD) : iprop(rest1 c ∗ BI.emp) ⊢ (rest1 c : sProp 𝕄) := sep_elim_left
omit [FloatOps F] [Named F] in
theorem rest1_out (c : Dev nD) : rest1 c ⊢ (iprop(rest1 c ∗ BI.emp) : sProp 𝕄) := by
  iintro H; isplitl [H]; · iexact H
  iempintro

set_option backward.isDefEq.respectTransparency.types false in
/-- The first call as a region over its arrays: entered at any contents `W`, left with the total in its result. -/
def region1 (R : Dev nD → sProp 𝕄) (hW' : ∀ c (w : Fin 3), (dat1 W c).arrAt w cfg1.N = W' c (Proc.devRef .tc (Pipeline.arrRef spec1 w))) :
    Pipeline.RegionSeg (pcfgs (F := F)) adm (pdats W adm) none defs₀ 𝒱₀ (K (F := F)).L (K (F := F)).lev 0 :=
  Pipeline.RegionSeg.ofHeld (pcfgs (F := F)) adm (pdats W adm) none defs₀ 𝒱₀ (K (F := F)).L (K (F := F)).lev 0 (fun _ => 0)
    (fun _ => BI.emp) (fun _ => BI.emp) launch1.toP rfl (loose1 W) (fun _ _ => rfl) (fun _ => rfl)
    (fun c => (pdats W adm 0 c).share_full fun _ => rfl) rest1_in rest1_out (fun _ => 0) (level_cut adm 0) R W W' (fun _ _ => rfl) hW'

theorem loose2 (c : Dev nD) : Pipeline.BodyObligationLoose (dat2 W c) (defs₀ (F := F)) 𝒱₀ none Set.univ := (body2 W c).loose

theorem pdats_1 (c : Dev nD) : pdats W adm 1 c = dat2 W c := rfl

/-- The scoped buffers no window of call 2 stages. -/
abbrev rest2 (c : Dev nD) : sProp 𝕄 := Pipeline.scopedRest (Ix := HIx 1) (Name := ℕ) (U := UU) (Lvl := ℕ) (Val := Elt F) spec2 c

omit [FloatOps F] [Named F] in
theorem rest2_in (c : Dev nD) : iprop(rest2 c ∗ BI.emp) ⊢ (rest2 c : sProp 𝕄) := sep_elim_left
omit [FloatOps F] [Named F] in
theorem rest2_out (c : Dev nD) : rest2 c ⊢ (iprop(rest2 c ∗ BI.emp) : sProp 𝕄) := by
  iintro H; isplitl [H]; · iexact H
  iempintro

set_option backward.isDefEq.respectTransparency.types false in
/-- The second call, the same. -/
def region2 (R : Dev nD → sProp 𝕄) (hW' : ∀ c (w : Fin 3), (dat2 W c).arrAt w cfg2.N = W' c (Proc.devRef .tc (Pipeline.arrRef spec2 w))) :
    Pipeline.RegionSeg (pcfgs (F := F)) adm (pdats W adm) none defs₀ 𝒱₀ (K (F := F)).L (K (F := F)).lev 1 :=
  Pipeline.RegionSeg.ofHeld (pcfgs (F := F)) adm (pdats W adm) none defs₀ 𝒱₀ (K (F := F)).L (K (F := F)).lev 1 (fun _ => 0)
    (fun _ => BI.emp) (fun _ => BI.emp) launch2.toP rfl (loose2 W) (fun _ _ => rfl) (fun _ => rfl)
    (fun c => (pdats W adm 1 c).share_full fun _ => rfl) rest2_in rest2_out (fun _ => 0) (level_cut adm 1) R W W' (fun _ _ => rfl) hW'

/-! ## What the two calls leave -/

/-- The contents after the first call: its result holds the total of the 32 blocks. -/
def afterRows (c : Dev nD) : Valuation τ sig (Elt F) :=
  Function.update (W c) (Proc.devRef .tc main_v3) (fun _ => totalAt W c 31 : S1x1.Idx → F .f32)

/-- The contents after the second. -/
def afterCombine (c : Dev nD) : Valuation τ sig (Elt F) :=
  Function.update (W c) (Proc.devRef .tc main_v4) (fun _ => combined W c : S1x1.Idx → F .f32)

theorem rows_exit (c : Dev nD) (w : Fin 3) : (dat1 W c).arrAt w cfg1.N = afterRows W c (Proc.devRef .tc (Pipeline.arrRef spec1 w)) := by
  match w with
  | 0 => exact ((dat1 W c).arrAt_in 0 rfl _).trans (Function.update_of_ne (show Proc.devRef (τ := τ) .tc main_arg0 ≠ Proc.devRef .tc main_v3 by decide) _ (W c)).symm
  | 1 => exact ((dat1 W c).arrAt_in 1 rfl _).trans (Function.update_of_ne (show Proc.devRef (τ := τ) .tc main_v2 ≠ Proc.devRef .tc main_v3 by decide) _ (W c)).symm
  | 2 =>
    refine Eq.trans ?_ (Function.update_self (Proc.devRef (τ := τ) .tc main_v3) _ (W c)).symm
    refine (dat1 W c).arrAt_eq_of_after_last 2 ⟨31, by rw [show cfg1.N = 32 from N_1]; decide⟩ (by decide +kernel) _ fun j => ?_
    dsimp only [dat1]; rfl

theorem combine_exit (c : Dev nD) (w : Fin 3) : (dat2 W c).arrAt w cfg2.N = afterCombine W c (Proc.devRef .tc (Pipeline.arrRef spec2 w)) := by
  match w with
  | 0 => exact ((dat2 W c).arrAt_in 0 rfl _).trans (Function.update_of_ne (show Proc.devRef (τ := τ) .tc main_v3 ≠ Proc.devRef .tc main_v4 by decide) _ (W c)).symm
  | 1 => exact ((dat2 W c).arrAt_in 1 rfl _).trans (Function.update_of_ne (show Proc.devRef (τ := τ) .tc main_v1 ≠ Proc.devRef .tc main_v4 by decide) _ (W c)).symm
  | 2 =>
    refine Eq.trans ?_ (Function.update_self (Proc.devRef (τ := τ) .tc main_v4) _ (W c)).symm
    refine (dat2 W c).arrAt_eq_of_after_last 2 t2_0 (by decide +kernel) _ fun j => ?_
    dsimp only [dat2]; rfl

end Cert.Proof

end
-- ==== Proof.Main.lean ====
/-
  The whole program: @main's six operations in order, from the launch's memory to its result. The contents of the
  arrays after each operation are valuations `at0 … at6` of the launch memory; the run theorem `run_main` says that
  every execution ends with both arguments unchanged and the result at `loss`.
-/
module

public import proofs.«01_k».proof.Proof.Call
public import proofs.«01_k».proof.Proof.RowBlocks

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Tactic
open Idealize.ShloMosaic.Pipeline (ucRefs cellsGhost toksInit pin arrRefs)

variable {F : FTy → Type} [FloatOps F] [Named F]

local notation "𝕄" => MT nD τ sig (HIx 1) (Elt F) ℕ UU ℕ

/-- The pipelines' launch arguments: none is left to choose. -/
abbrev adm : (p : Fin 2) → (pcfgs (F := F) p).Adm := fun p => (cfgs p).toPCfg_adm

variable (m : (ℓ : Loc nD τ sig) → Buf (Elt F) ℓ) (ρ : Dev nD → PrngReg)

/-! ## The arrays after each operation -/

/-- The three host operations: the tokens to floats, the tokens to a column, the word to a scalar. -/
abbrev opFloat : HloOp τ sig (Elt F) :=
  StableHlo.unary main_arg1 main_v0 (sitofp .f32 : (⟨S4096, .i32⟩ : BufTy).Contents (Elt F) → (⟨S4096, .f32⟩ : BufTy).Contents (Elt F))
abbrev opColumn : HloOp τ sig (Elt F) := StableHlo.reshape main_arg1 main_v2 (rfl : (.i32 : EltTy) = .i32) shapeCasts_S4096_S4096x1
abbrev opScalar : HloOp τ sig (Elt F) := StableHlo.reshape main_v4 main_v5 (rfl : (.f32 : EltTy) = .f32) shapeCasts_S1x1_S_

/-- At the launch, -/
def at0 (c : Dev nD) : Valuation τ sig (Elt F) := fun b => m (c, b)
/-- after the conversion, -/
def at1 (c : Dev nD) : Valuation τ sig (Elt F) := (opFloat (F := F)).result (at0 m c)
/-- after the SparseCore call, -/
def at2 (c : Dev nD) : Valuation τ sig (Elt F) := Function.update (at1 m c) (Proc.devRef .tc main_v1) (sumsOf m c)
/-- after the reshape of the tokens, -/
def at3 (c : Dev nD) : Valuation τ sig (Elt F) := (opColumn (F := F)).result (at2 m c)
/-- after the row blocks, -/
def at4 (c : Dev nD) : Valuation τ sig (Elt F) := afterRows (at3 m) c
/-- after the combination, -/
def at5 (c : Dev nD) : Valuation τ sig (Elt F) := afterCombine (at4 m) c
/-- and at the end. -/
def at6 (c : Dev nD) : Valuation τ sig (Elt F) := (opScalar (F := F)).result (at5 m c)

/-- The program's result. -/
def loss (c : Dev nD) : F .f32 := combined (at4 m) c

/-! ### Which contents they are -/

theorem at1_of_ne (c : Dev nD) {r : Ref sig .tc} (h : r ≠ main_v0) : at1 m c (Proc.devRef .tc r) = m (c, Proc.devRef .tc r) :=
  StableHlo.result_of_writes_ne (opFloat (F := F)) _ main_v0 r rfl h
theorem at1_tokens (c : Dev nD) : at1 m c (Proc.devRef .tc main_v0) = floatTokens m c := StableHlo.unary_result _ _ _ _ _ _
theorem at2_of_ne (c : Dev nD) {b : DevRef τ sig} (h : b ≠ Proc.devRef .tc main_v1) : at2 m c b = at1 m c b := Function.update_of_ne h _ (at1 m c)
theorem at2_sums (c : Dev nD) : at2 m c (Proc.devRef .tc main_v1) = sumsOf m c := Function.update_self _ _ (at1 m c)
theorem at3_of_ne (c : Dev nD) {r : Ref sig .tc} (h : r ≠ main_v2) : at3 m c (Proc.devRef .tc r) = at2 m c (Proc.devRef .tc r) :=
  StableHlo.result_of_writes_ne (opColumn (F := F)) _ main_v2 r rfl h
theorem at3_column (c : Dev nD) : at3 m c (Proc.devRef .tc main_v2) = fun i => shapeCast S4096x1 (at2 m c (Proc.devRef .tc main_arg1)) shapeCasts_S4096_S4096x1 i :=
  StableHlo.reshape_result _ _ _ _ _ _ _
theorem at4_of_ne (c : Dev nD) {b : DevRef τ sig} (h : b ≠ Proc.devRef .tc main_v3) : at4 m c b = at3 m c b := Function.update_of_ne h _ (at3 m c)
theorem at4_total (c : Dev nD) : at4 m c (Proc.devRef .tc main_v3) = (fun _ => totalAt (at3 m) c 31 : S1x1.Idx → F .f32) := Function.update_self (Proc.devRef (τ := τ) .tc main_v3) _ (at3 m c)
theorem at5_of_ne (c : Dev nD) {b : DevRef τ sig} (h : b ≠ Proc.devRef .tc main_v4) : at5 m c b = at4 m c b := Function.update_of_ne h _ (at4 m c)
theorem at5_word (c : Dev nD) : at5 m c (Proc.devRef .tc main_v4) = (fun _ => loss m c : S1x1.Idx → F .f32) := Function.update_self (Proc.devRef (τ := τ) .tc main_v4) _ (at4 m c)
theorem at6_of_ne (c : Dev nD) {r : Ref sig .tc} (h : r ≠ main_v5) : at6 m c (Proc.devRef .tc r) = at5 m c (Proc.devRef .tc r) :=
  StableHlo.result_of_writes_ne (opScalar (F := F)) _ main_v5 r rfl h

/-- An argument of the program keeps its contents throughout. -/
theorem at6_argument (c : Dev nD) {r : Ref sig .tc} (h0 : r ≠ main_v0) (h1 : r ≠ main_v1) (h2 : r ≠ main_v2) (h3 : r ≠ main_v3) (h4 : r ≠ main_v4)
    (h5 : r ≠ main_v5) : at6 m c (Proc.devRef .tc r) = m (c, Proc.devRef .tc r) :=
  (at6_of_ne m c h5).trans <| (at5_of_ne m c (StableHlo.devRef_ne_of_ne h4)).trans <| (at4_of_ne m c (StableHlo.devRef_ne_of_ne h3)).trans <|
    (at3_of_ne m c h2).trans <| (at2_of_ne m c (StableHlo.devRef_ne_of_ne h1)).trans (at1_of_ne m c h0)

theorem at6_loss (c : Dev nD) : at6 m c (Proc.devRef .tc main_v5) = fun _ => loss m c := by
  refine (StableHlo.reshape_result _ _ _ _ _ _ _).trans ?_
  rw [show (at5 m c) (Proc.devRef .tc main_v4) = (fun _ => loss m c : S1x1.Idx → F .f32) from at5_word m c]
  rfl

/-! ## The launch element -/

/-- The handshakes' rounds, the pipelines' rounds, no counter. -/
def u₀ : UU :=
  (initOf (K (F := F)).hsCells (K (F := F)).hsToks,
    (initOf (Pipeline.cells (pin (pcfgs (F := F)) adm) cellOf_inj) (Pipeline.launchToks (pin (pcfgs (F := F)) adm) cellOf_inj), 1))

/-- What the launch deals the TensorCore: the ghost state of its two pipelines. -/
def ghost (d : Dev nD) : sProp 𝕄 :=
  iprop((bigSep Finset.univ fun p : Fin 2 => cellsGhost (pin (pcfgs (F := F)) adm) EP p d)
    ∗ bigSep Finset.univ fun p : Fin 2 => toksInit (pin (pcfgs (F := F)) adm) EP p d)

theorem launch_element : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR (nD := nD) (τ := τ) (sig := sig) (Ix := HIx 1) (Val := Elt F) (Name := ℕ) (A := UH) (B := UP × Counters) (Lvl := ℕ)) _ _) $$ HR
  icases HR' with ⟨HP, -⟩
  ihave HP' := (Entails.of_eq (show BI.own (((Emb.inl : Emb UP (UP × Counters)).trans (embR (nD := nD) (τ := τ) (sig := sig) (Ix := HIx 1) (Val := Elt F) (Name := ℕ) (A := UH) (Lvl := ℕ)))
      (initOf (Pipeline.cells (pin (pcfgs (F := F)) adm) cellOf_inj) (Pipeline.launchToks (pin (pcfgs (F := F)) adm) cellOf_inj)))
    = BI.own (EP (initOf (Pipeline.cells (pin (pcfgs (F := F)) adm) cellOf_inj) (Pipeline.launchToks (pin (pcfgs (F := F)) adm) cellOf_inj))) from rfl)) $$ HP
  imod (Pipeline.fund_ghost (pin (pcfgs (F := F)) adm) EP cellOf_inj) $$ HP' with ⟨Hc, Ht⟩
  imodintro
  isplitl [HH]; · iexact HH
  isplitl [Hc Ht]
  · unfold ghost
    rw [bigSep_sep']
    isplitl [Hc]; · iexact Hc
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  rw [show (bigSep Finset.univ fun _ : Thread nD τ => iprop(emp)) = (iprop(emp) : sProp 𝕄) from bigSep_emp_const _]
  iempintro

/-! ## The SparseCore call, from the arrays held -/

/-- The arrays the call works on. -/
abbrev callRefs : Finset (DevRef τ sig) := {Proc.devRef .tc main_arg0, Proc.devRef .tc main_v0, Proc.devRef .tc main_v1}

theorem callRefs_sub : callRefs ⊆ ucRefs τ sig := by decide

omit [FloatOps F] [Named F] in
theorem held_call (d : Dev nD) (V : Valuation τ sig (Elt F)) :
    (StableHlo.held (SparseCore.T d) callRefs V : sProp 𝕄)
      = iprop((pLoc d ↦{fullShare} V (Proc.devRef .tc main_arg0)) ∗ (fLoc d ↦{fullShare} V (Proc.devRef .tc main_v0))
          ∗ (oLoc d ↦{fullShare} V (Proc.devRef .tc main_v1))) := by
  unfold StableHlo.held callRefs
  rw [SparseCore.bigSep_insert' (by decide), SparseCore.bigSep_insert' (by decide), bigSep_singleton]

theorem call_step (κ : GSem nD τ sig → ℕ) (d : Dev nD) (Φ : PUnit → sProp 𝕄) :
    iprop((K (F := F)).ctx EH (P m) κ ∗ (K (F := F)).tcSt EH d 0 ∗ StableHlo.held (SparseCore.T d) (ucRefs τ sig) (at1 m d)
        ∗ (((K (F := F)).tcSt EH d 1 ∗ StableHlo.held (SparseCore.T d) (ucRefs τ sig) (at2 m d)) -∗ Φ ⟨⟩))
      ⊢ wp frame (wpE ((K (F := F)).defs (D (F := F))) 𝒱 (SparseCore.T d) none) Set.univ ((K (F := F)).run d 0) Φ := by
  rw [StableHlo.held_sub_split (SparseCore.T d) callRefs_sub (at1 m d), StableHlo.held_sub_split (SparseCore.T d) callRefs_sub (at2 m d),
    StableHlo.held_congr (SparseCore.T d) (S := ucRefs τ sig \ callRefs) (V := at2 m d) (V' := at1 m d)
      (fun b hb => at2_of_ne m d (fun e => (Finset.mem_sdiff.mp hb).2 (by rw [e]; decide))),
    held_call, held_call,
    show at1 m d (Proc.devRef .tc main_arg0) = m (pLoc d) from at1_of_ne m d (by decide),
    show at1 m d (Proc.devRef .tc main_v0) = floatTokens m d from at1_tokens m d,
    show at1 m d (Proc.devRef .tc main_v1) = m (oLoc d) from at1_of_ne m d (by decide),
    show at2 m d (Proc.devRef .tc main_arg0) = m (pLoc d) from (at2_of_ne m d (StableHlo.devRef_ne_of_ne (by decide))).trans (at1_of_ne m d (by decide)),
    show at2 m d (Proc.devRef .tc main_v0) = floatTokens m d from (at2_of_ne m d (StableHlo.devRef_ne_of_ne (by decide))).trans (at1_tokens m d),
    at2_sums]
  iintro ⟨#Hctx, Hst, ⟨⟨Hp, Hf, Ho⟩, Hrest⟩, Hk⟩
  ihave Hp' := (table_split d (m (pLoc d))).1 $$ Hp
  icases Hp' with ⟨Hkeep, Hshares⟩
  iapply ((K (F := F)).wp_run (D (F := F)) 𝒱 (EH := EH) (P := P m) κ d 0) $$ [Hst Hkeep Hshares Hf Ho Hrest Hk]
  isplitr; · iexact Hctx
  isplitl [Hst]; · iexact Hst
  isplitl [Hshares Hf Ho]
  · rw [sent]
    isplitl [Hshares]; · iexact Hshares
    isplitl [Hf]; · iexact Hf
    iexact Ho
  iintro ⟨Hst, Hdn⟩
  ihave Hdn' := (Entails.of_eq (brought_back m d)) $$ Hdn
  icases Hdn' with ⟨Hshares, Hf, Ho⟩
  iapply Hk
  isplitl [Hst]; · iexact Hst
  isplitr [Hrest]
  · isplitl [Hkeep Hshares]
    · iapply (table_split d (m (pLoc d))).2
      isplitl [Hkeep]; · iexact Hkeep
      iexact Hshares
    isplitl [Hf]; · iexact Hf
    iexact Ho
  iexact Hrest

/-! ## The TensorCore calls -/

/-- A TensorCore call, as the pipelines' program runs it. -/
abbrev pipelineCall (p : Fin 2) : Prog (TpuEff nD τ sig (Elt F) (ΛP (F := F)) .tc) PUnit :=
  .op (.customCall (Pipeline.entry p) ()) fun _ => .ret ⟨⟩

/-- A TensorCore call of @main, as a line beside the SparseCore call, is its region's run. -/
theorem region_step {pd : (p : Fin 2) → (c : Dev nD) → Pipeline.Dat τ (Elt F) (HIx 1) ℕ UU ℕ (pin (pcfgs (F := F)) adm p) c} (p : Fin 2)
    [∀ e, Nonempty (Elt F e)]
    (R : Pipeline.RegionSeg (pcfgs (F := F)) adm pd none defs₀ 𝒱₀ (K (F := F)).L (K (F := F)).lev p) (d : Dev nD) (Φ : PUnit → sProp 𝕄) :
    iprop((iprop(boundary (SparseCore.T d) ∗ R.post d) -∗ Φ ⟨⟩)
        ∗ boundary (SparseCore.T d) ∗ R.pre d ∗ levAts (K (F := F)).L (K (F := F)).lev
        ∗ cellsGhost (pin (pcfgs (F := F)) adm) EP p d ∗ toksInit (pin (pcfgs (F := F)) adm) EP p d)
      ⊢ wp frame (wpE ((K (F := F)).defs (D (F := F))) 𝒱 (SparseCore.T d) none) Set.univ
          (Prog.lift (.customCall (SparseCore.inner (Pipeline.entry p)) ())) Φ := by
  have hlift := (K (F := F)).wp_liftProg (D (F := F)) 𝒱 (SparseCore.T d) Set.univ none (pipelineCall (F := F) p) Φ
  have hrun := Pipeline.RegionSeg.wp (pcfgs (F := F)) adm pd none cellOf_inj EP defs₀ 𝒱₀ (K (F := F)).L (K (F := F)).lev R d none
    (fun u hu => nomatch hu) (fun _ => .ret ⟨⟩) Φ
  refine BIBase.Entails.trans ?_ hlift
  refine BIBase.Entails.trans ?_ hrun
  rw [wp_ret]
  iintro ⟨Hk, H⟩
  isplitl [Hk]
  · iintro H; imodintro; iapply Hk; iexact H
  iexact H

/-- The arrays a region does not work on, held beside it. -/
abbrev aside (S : Finset (DevRef τ sig)) (V : Dev nD → Valuation τ sig (Elt F)) (d : Dev nD) : sProp 𝕄 :=
  StableHlo.held (SparseCore.T d) (ucRefs τ sig \ S) (V d)

theorem rows_sub : arrRefs (τ := τ) spec1 ⊆ ucRefs τ sig := Pipeline.arrRefs_sub_ucRefs spec1 (by decide)
theorem combine_sub : arrRefs (τ := τ) spec2 ⊆ ucRefs τ sig := Pipeline.arrRefs_sub_ucRefs spec2 (by decide)

/-- The row blocks, from all the arrays held: their total is written, nothing else. -/
theorem rows_step [∀ e, Nonempty (Elt F e)] (d : Dev nD) (Φ : PUnit → sProp 𝕄) :
    iprop(levAts (K (F := F)).L (K (F := F)).lev ∗ boundary (SparseCore.T d) ∗ StableHlo.held (SparseCore.T d) (ucRefs τ sig) (at3 m d)
        ∗ (∃ Wd, owes (SparseCore.T d) (0 : CellTallies nD τ sig (HIx 1)) Wd)
        ∗ cellsGhost (pin (pcfgs (F := F)) adm) EP 0 d ∗ toksInit (pin (pcfgs (F := F)) adm) EP 0 d
        ∗ (iprop(boundary (SparseCore.T d) ∗ StableHlo.held (SparseCore.T d) (ucRefs τ sig) (at4 m d)
            ∗ ∃ Wd, owes (SparseCore.T d) (0 : CellTallies nD τ sig (HIx 1)) Wd) -∗ Φ ⟨⟩))
      ⊢ wp frame (wpE ((K (F := F)).defs (D (F := F))) 𝒱 (SparseCore.T d) none) Set.univ
          (Prog.lift (.customCall (SparseCore.inner (Pipeline.entry 0)) ())) Φ := by
  refine BIBase.Entails.trans ?_ (region_step 0 (region1 (at3 m) adm (at4 m) (aside (arrRefs spec1) (at3 m)) (rows_exit (at3 m))) d Φ)
  rw [StableHlo.held_sub_split (SparseCore.T d) rows_sub (at3 m d), StableHlo.held_sub_split (SparseCore.T d) rows_sub (at4 m d),
    StableHlo.held_congr (SparseCore.T d) (S := ucRefs τ sig \ arrRefs spec1) (V := at4 m d) (V' := at3 m d)
      (fun b hb => at4_of_ne m d (fun e => (Finset.mem_sdiff.mp hb).2 (by rw [e]; decide)))]
  show _ ⊢ iprop((iprop(boundary (SparseCore.T d) ∗ (StableHlo.held (SparseCore.T d) (arrRefs spec1) (at4 m d) ∗ BI.emp ∗ aside (arrRefs spec1) (at3 m) d
      ∗ ∃ Wd, owes (SparseCore.T d) (0 : CellTallies nD τ sig (HIx 1)) Wd)) -∗ Φ ⟨⟩)
    ∗ boundary (SparseCore.T d) ∗ (StableHlo.held (SparseCore.T d) (arrRefs spec1) (at3 m d) ∗ BI.emp ∗ aside (arrRefs spec1) (at3 m) d
      ∗ ∃ Wd, owes (SparseCore.T d) (0 : CellTallies nD τ sig (HIx 1)) Wd)
    ∗ levAts (K (F := F)).L (K (F := F)).lev ∗ cellsGhost (pin (pcfgs (F := F)) adm) EP 0 d ∗ toksInit (pin (pcfgs (F := F)) adm) EP 0 d)
  iintro ⟨Hl, Hb, ⟨Ha, Hr⟩, HO, Hc, Ht, Hk⟩
  isplitl [Hk]
  · iintro ⟨Hb, Ha, -, Hr, HO⟩
    iapply Hk
    isplitl [Hb]; · iexact Hb
    isplitl [Ha Hr]
    · isplitl [Ha]; · iexact Ha
      iexact Hr
    iexact HO
  isplitl [Hb]; · iexact Hb
  isplitl [Ha Hr HO]
  · isplitl [Ha]; · iexact Ha
    isplitr; · iempintro
    isplitl [Hr]; · iexact Hr
    iexact HO
  isplitl [Hl]; · iexact Hl
  isplitl [Hc]; · iexact Hc
  iexact Ht

/-- The combination, likewise. -/
theorem combine_step [∀ e, Nonempty (Elt F e)] (d : Dev nD) (Φ : PUnit → sProp 𝕄) :
    iprop(levAts (K (F := F)).L (K (F := F)).lev ∗ boundary (SparseCore.T d) ∗ StableHlo.held (SparseCore.T d) (ucRefs τ sig) (at4 m d)
        ∗ (∃ Wd, owes (SparseCore.T d) (0 : CellTallies nD τ sig (HIx 1)) Wd)
        ∗ cellsGhost (pin (pcfgs (F := F)) adm) EP 1 d ∗ toksInit (pin (pcfgs (F := F)) adm) EP 1 d
        ∗ (iprop(boundary (SparseCore.T d) ∗ StableHlo.held (SparseCore.T d) (ucRefs τ sig) (at5 m d)
            ∗ ∃ Wd, owes (SparseCore.T d) (0 : CellTallies nD τ sig (HIx 1)) Wd) -∗ Φ ⟨⟩))
      ⊢ wp frame (wpE ((K (F := F)).defs (D (F := F))) 𝒱 (SparseCore.T d) none) Set.univ
          (Prog.lift (.customCall (SparseCore.inner (Pipeline.entry 1)) ())) Φ := by
  refine BIBase.Entails.trans ?_ (region_step 1 (region2 (at4 m) adm (at5 m) (aside (arrRefs spec2) (at4 m)) (combine_exit (at4 m))) d Φ)
  rw [StableHlo.held_sub_split (SparseCore.T d) combine_sub (at4 m d), StableHlo.held_sub_split (SparseCore.T d) combine_sub (at5 m d),
    StableHlo.held_congr (SparseCore.T d) (S := ucRefs τ sig \ arrRefs spec2) (V := at5 m d) (V' := at4 m d)
      (fun b hb => at5_of_ne m d (fun e => (Finset.mem_sdiff.mp hb).2 (by rw [e]; decide)))]
  show _ ⊢ iprop((iprop(boundary (SparseCore.T d) ∗ (StableHlo.held (SparseCore.T d) (arrRefs spec2) (at5 m d) ∗ BI.emp ∗ aside (arrRefs spec2) (at4 m) d
      ∗ ∃ Wd, owes (SparseCore.T d) (0 : CellTallies nD τ sig (HIx 1)) Wd)) -∗ Φ ⟨⟩)
    ∗ boundary (SparseCore.T d) ∗ (StableHlo.held (SparseCore.T d) (arrRefs spec2) (at4 m d) ∗ BI.emp ∗ aside (arrRefs spec2) (at4 m) d
      ∗ ∃ Wd, owes (SparseCore.T d) (0 : CellTallies nD τ sig (HIx 1)) Wd)
    ∗ levAts (K (F := F)).L (K (F := F)).lev ∗ cellsGhost (pin (pcfgs (F := F)) adm) EP 1 d ∗ toksInit (pin (pcfgs (F := F)) adm) EP 1 d)
  iintro ⟨Hl, Hb, ⟨Ha, Hr⟩, HO, Hc, Ht, Hk⟩
  isplitl [Hk]
  · iintro ⟨Hb, Ha, -, Hr, HO⟩
    iapply Hk
    isplitl [Hb]; · iexact Hb
    isplitl [Ha Hr]
    · isplitl [Ha]; · iexact Ha
      iexact Hr
    iexact HO
  isplitl [Hb]; · iexact Hb
  isplitl [Ha Hr HO]
  · isplitl [Ha]; · iexact Ha
    isplitr; · iempintro
    isplitl [Hr]; · iexact Hr
    iexact HO
  isplitl [Hl]; · iexact Hl
  isplitl [Hc]; · iexact Hc
  iexact Ht

/-! ## @main -/

/-- The arrays the claims read. -/
abbrev endRefs : Finset (DevRef τ sig) := {Proc.devRef .tc main_arg0, Proc.devRef .tc main_arg1, Proc.devRef .tc main_v5}

theorem endRefs_sub : endRefs ⊆ ucRefs τ sig := by decide

/-- The result's location. -/
abbrev rLoc (d : Dev nD) : Loc nD τ sig := (SparseCore.T d).loc main_v5

/-- The result's contents: the one word. -/
abbrev lossBuf (d : Dev nD) : Buf (Elt F) (rLoc d) := (fun _ => loss m d : S_.Idx → F .f32)

/-- What the claims read at the end: the arguments as they were, the result at the loss. -/
abbrev FIN (d : Dev nD) : sProp 𝕄 :=
  iprop((pLoc d ↦{fullShare} m (pLoc d)) ∗ (tLoc d ↦{fullShare} m (tLoc d)) ∗ (rLoc d ↦{fullShare} lossBuf m d))

theorem held_end (d : Dev nD) : (StableHlo.held (SparseCore.T d) (ucRefs τ sig) (at6 m d) : sProp 𝕄) ⊢ FIN m d := by
  rw [StableHlo.held_sub_split (SparseCore.T d) endRefs_sub (at6 m d)]
  unfold StableHlo.held endRefs
  rw [SparseCore.bigSep_insert' (by decide), SparseCore.bigSep_insert' (by decide), bigSep_singleton,
    show at6 m d (Proc.devRef .tc main_arg0) = m (pLoc d) from at6_argument m d (by decide) (by decide) (by decide) (by decide) (by decide) (by decide),
    show at6 m d (Proc.devRef .tc main_arg1) = m (tLoc d) from at6_argument m d (by decide) (by decide) (by decide) (by decide) (by decide) (by decide),
    show at6 m d (Proc.devRef .tc main_v5) = lossBuf m d from at6_loss m d]
  exact sep_elim_left

/-- The TensorCore after the SparseCore call owes nothing, whatever waits it has recorded. -/
theorem after_call (d : Dev nD) :
    ((K (F := F)).tcSt EH d 1 : sProp 𝕄)
      ⊣⊢ iprop((∃ W, owes (SparseCore.T d) (0 : CellTallies nD τ sig (HIx 1)) W)
        ∗ atPos EH ((K (F := F)).doneCell d) 1 ∅ 0 ∗ reached EH ((K (F := F)).doneCell d) 1
        ∗ (bigSep Finset.univ fun c : Fin τ.nSC => reached EH ((K (F := F)).startCell d c) ((K (F := F)).sRank c 1))
        ∗ bigSep (SparseCore.Cfg.callsFrom 1) fun q => bigSep Finset.univ fun c : Fin ((K (F := F)).nCore q) =>
            iprop(dutyTok EH ((K (F := F)).startCell d ((K (F := F)).core q c)) ((K (F := F)).sRank ((K (F := F)).core q c) q.val) 0
              ∗ cred (tallyAt ((K (F := F)).doneCell d) (some (SparseCore.Cfg.Blocks.last q)) 1))) := by
  unfold SparseCore.Cfg.tcSt
  rw [(K (F := F)).Otc_end d (le_refl 1)]
  constructor
  · iintro ⟨⟨%W, -, HO⟩, H⟩
    isplitl [HO]; · iexists W; iexact HO
    iexact H
  · iintro ⟨⟨%W, HO⟩, H⟩
    isplitl [HO]
    · iexists W
      isplitr
      · ipureintro
        intro p _
        have hb : (K (F := F)).lev (SparseCore.T d, p.1) p.2 ≤ 8 := by
          rcases p.2 with _ | q
          · exact Nat.zero_le _
          · have := (K (F := F)).lev_some_le (SparseCore.T d, p.1) q
            have := q.isLt; omega
        exact hb
      iexact HO
    iexact H

end Cert.Proof

end
-- ==== Proof.Run.lean ====
/-
  The program's run: @main on the TensorCore from the launch to the end, and the run theorem.
-/
module

public import proofs.«01_k».proof.Proof.Main

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Tactic
open Idealize.ShloMosaic.Pipeline (ucRefs cellsGhost toksInit pin arrRefs)

variable {F : FTy → Type} [FloatOps F] [Named F]

local notation "𝕄" => MT nD τ sig (HIx 1) (Elt F) ℕ UU ℕ

variable (m : (ℓ : Loc nD τ sig) → Buf (Elt F) ℓ) (ρ : Dev nD → PrngReg)

theorem ghost_split (d : Dev nD) :
    (ghost d : sProp 𝕄) = iprop((cellsGhost (pin (pcfgs (F := F)) adm) EP 0 d ∗ cellsGhost (pin (pcfgs (F := F)) adm) EP 1 d)
      ∗ (toksInit (pin (pcfgs (F := F)) adm) EP 0 d ∗ toksInit (pin (pcfgs (F := F)) adm) EP 1 d)) := by
  unfold ghost
  rw [bigSep_fin_two, bigSep_fin_two]
  rfl

theorem opFloat_sub : (opFloat (F := F)).bufs ⊆ ucRefs τ sig := by
  rw [show (opFloat (F := F)).bufs = {Proc.devRef .tc main_arg1, Proc.devRef .tc main_v0} from rfl]; decide
theorem opColumn_sub : (opColumn (F := F)).bufs ⊆ ucRefs τ sig := by
  rw [show (opColumn (F := F)).bufs = {Proc.devRef .tc main_arg1, Proc.devRef .tc main_v2} from rfl]; decide
theorem opScalar_sub : (opScalar (F := F)).bufs ⊆ ucRefs τ sig := by
  rw [show (opScalar (F := F)).bufs = {Proc.devRef .tc main_v4, Proc.devRef .tc main_v5} from rfl]; decide

/-- @main on a device's TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (ucRefs τ sig) (at0 m d) from
    Pipeline.unscopedBufs_held d (at0 m d), ghost_split]
  simp only [main, wp_bind, wp_pure]
  iintro ⟨#Hctx, Hst, ⟨Hb, Hheld, Hts, -⟩, ⟨⟨Hc0, Hc1⟩, ⟨Ht0, Ht1⟩⟩⟩
  ihave #Hlev := (SparseCore.Cfg.ctx_levAts κ) $$ Hctx
  -- the tokens to floats
  iapply (StableHlo.wp_hlo_within 𝒱 (SparseCore.T d) none Set.univ (op := opFloat (F := F)) (V := at0 m d) opFloat_sub) $$ [Hb Hheld]
  · isplitl [Hb] <;> iassumption
  iintro ⟨Hb, Hheld⟩
  rw [wp_ret]; imodintro
  -- the SparseCore call
  iapply (call_step m κ d)
  isplitr; · iexact Hctx
  isplitl [Hst]; · iexact Hst
  isplitl [Hheld]; · iexact Hheld
  iintro ⟨Hst, Hheld⟩
  -- the tokens to a column
  iapply (StableHlo.wp_hlo_within 𝒱 (SparseCore.T d) none Set.univ (op := opColumn (F := F)) (V := at2 m d) opColumn_sub) $$ [Hb Hheld]
  · isplitl [Hb] <;> iassumption
  iintro ⟨Hb, Hheld⟩
  rw [wp_ret]; imodintro
  ihave Hst' := (after_call d).1 $$ Hst
  icases Hst' with ⟨HO, Hst⟩
  -- the row blocks
  iapply (rows_step m d)
  isplitr; · iexact Hlev
  isplitl [Hb]; · iexact Hb
  isplitl [Hheld]; · iexact Hheld
  isplitl [HO]; · iexact HO
  isplitl [Hc0]; · iexact Hc0
  isplitl [Ht0]; · iexact Ht0
  iintro ⟨Hb, Hheld, HO⟩
  -- the combination
  iapply (combine_step m d)
  isplitr; · iexact Hlev
  isplitl [Hb]; · iexact Hb
  isplitl [Hheld]; · iexact Hheld
  isplitl [HO]; · iexact HO
  isplitl [Hc1]; · iexact Hc1
  isplitl [Ht1]; · iexact Ht1
  iintro ⟨Hb, Hheld, HO⟩
  -- the word to a scalar
  iapply (StableHlo.wp_hlo_within 𝒱 (SparseCore.T d) none Set.univ (op := opScalar (F := F)) (V := at5 m d) opScalar_sub) $$ [Hb Hheld]
  · isplitl [Hb] <;> iassumption
  iintro ⟨Hb, Hheld⟩
  rw [wp_ret]; imodintro
  imodintro
  isplitl [HO Hst]
  · iapply (after_call d).2
    isplitl [HO]; · iexact HO
    iexact Hst
  isplitl [Hheld]
  · iapply (held_end m d); iexact Hheld
  isplitl [Hb]; · iexact Hb
  iexact Hts

/-! ## The end, read off the memory -/

/-- What a final state holds on a device. -/
def ended (d : Dev nD) (s' : Phys nD τ sig (Elt F)) : Prop :=
  s'.mem.mem (pLoc d) = m (pLoc d) ∧ s'.mem.mem (tLoc d) = m (tLoc d) ∧ s'.mem.mem (rLoc d) = lossBuf m d

theorem hfin (d : Dev nD) (s' : Phys nD τ sig (Elt F)) : iprop(FIN m d ∗ SI s') ⊢ (⌜ended m d s'⌝ : sProp 𝕄) := by
  iintro ⟨⟨Hp, Ht, Hr⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := rLoc d) (I := Finset.univ) (q := fullShare) (f := lossBuf m d)) $$ [HSI Hr]
  · isplitl [HSI] <;> iassumption
  icases H with %hr
  ipureintro
  exact ⟨funext fun i => hp i (Finset.mem_univ i), funext fun i => ht i (Finset.mem_univ i), funext fun i => hr i (Finset.mem_univ i)⟩

/-- Every device ends with its arguments unchanged, its result at the loss, and every counter is back at zero. -/
def Ended : PUnit × MemSt nD τ sig (Elt F) → Prop := fun r =>
  (∀ c : Dev nD, r.2.mem (pLoc c) = m (pLoc c) ∧ r.2.mem (tLoc c) = m (tLoc c) ∧ r.2.mem (rLoc c) = lossBuf m c) ∧ r.2.sem = fun _ => 0

/-- THE RUN: at any float values that convert the tokens to floats and back unharmed, every execution ends there. -/
theorem run_main [∀ e, Nonempty (Elt F e)] (htok : TokensOk m) :
    θ_run (Cert.KernelIdeal.defs (F := F)) (Cert.KernelIdeal.threads (F := F)) ⟨m, fun _ => 0, ρ⟩ (Ended m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m htok facts)
    (fun q _ => match q with | 0 => SparseCore.Cfg.VecSplit.of_plain (vecSplit m))
    m ρ main (fun d => ghost d) (FIN m) (u₀ (F := F)) (sep_elim_left.trans (launch_element m)) (hmain m ρ) (ended m) (hfin m) (Ended m) (fun _ h hz => ⟨h, hz⟩)

end Cert.Proof

end
-- ==== Proof.Pre.lean ====
/-
  What the preconditions say of the arguments: every token is a number below 32768, and (for the value claim) every entry
  of the table is a real number. And what the tile reads of a token that the host converted to a float: the token.
-/
module

public import proofs.«01_k».proof.Defs
public import proofs.«01_k».proof.Proof.Run
public import proofs.«01_k».proof.Proof.Gen.Pre_in_vocabulary
public import proofs.«01_k».proof.Proof.Gen.Pre_finite_in_vocabulary
public import Idealize.ShloMosaic.Lib.ReduceAll
public import Idealize.ShloMosaic.Lib.NatWords
public import Idealize.ShloMosaic.Lib.NatWordsOrder

@[expose] public section

noncomputable section

namespace Cert.Proof

open Idealize.ShloMosaic

instance : Subsingleton Cert.Pre_in_vocabulary.S_.Idx := ⟨fun a b => funext fun d => d.elim0⟩
instance : Subsingleton Cert.Pre_finite_in_vocabulary.S_.Idx := ⟨fun a b => funext fun d => d.elim0⟩

/-- The two comparisons of the precondition, read as numbers. -/
theorem below_of_compares (w : BitVec 32) (h0 : IntOp.cmpi .sge w 0#32 = 1#1) (h1 : IntOp.cmpi .slt w 32768#32 = 1#1) :
    w.toNat < 32768 := by
  have h0' : BitVec.sle 0#32 w = true := by
    by_contra h
    simp only [IntOp.cmpi, Bool.not_eq_true] at h h0
    rw [h] at h0; exact absurd h0 (by decide)
  have h1' : BitVec.slt w 32768#32 = true := by
    by_contra h
    simp only [IntOp.cmpi, Bool.not_eq_true] at h h1
    rw [h] at h1; exact absurd h1 (by decide)
  have a := BitVec.sle_iff_toInt_le.1 h0'
  have b := BitVec.slt_iff_toInt_lt.1 h1'
  have e0 : (0#32 : BitVec 32).toInt = 0 := by decide
  have e1 : (32768#32 : BitVec 32).toInt = 32768 := by decide
  rw [e0] at a; rw [e1] at b
  rw [BitVec.toInt_eq_toNat_cond] at a b
  split at a <;> split at b <;> omega

/-- The tokens' precondition, at every token. -/
theorem tokens_below {F : FTy → Type} [FloatOps F] (p : FVec F Cert.Pre_in_vocabulary.S4096x32768 .f32)
    (t : IVec Cert.Pre_in_vocabulary.S4096 32) (h : Cert.Pre_in_vocabulary.fn p t = fun _ => 1#1)
    (i : Cert.Pre_in_vocabulary.S4096.Idx) : (t i).toNat < 32768 := by
  have e := congrFun h (fun d => d.elim0)
  obtain ⟨a, b⟩ := IntOp.andi_eq_one.1 e
  exact below_of_compares _ (Host.reduce_andi_all _ _ _ _ _ a i) (Host.reduce_andi_all _ _ _ _ _ b i)

/-- The finite precondition's tokens. -/
theorem finite_tokens_below {F : FTy → Type} [FloatOps F] (p : FVec F Cert.Pre_finite_in_vocabulary.S4096x32768 .f32)
    (t : IVec Cert.Pre_finite_in_vocabulary.S4096 32) (h : Cert.Pre_finite_in_vocabulary.fn p t = fun _ => 1#1)
    (i : Cert.Pre_finite_in_vocabulary.S4096.Idx) : (t i).toNat < 32768 := by
  have e := congrFun h (fun d => d.elim0)
  obtain ⟨a, b⟩ := IntOp.andi_eq_one.1 e
  obtain ⟨-, a⟩ := IntOp.andi_eq_one.1 a
  exact below_of_compares _ (Host.reduce_andi_all _ _ _ _ _ a i) (Host.reduce_andi_all _ _ _ _ _ b i)

/-- The finite precondition's table: every entry is a real number. -/
theorem entries_real (p : FVec Ideal Cert.Pre_finite_in_vocabulary.S4096x32768 .f32)
    (t : IVec Cert.Pre_finite_in_vocabulary.S4096 32) (h : Cert.Pre_finite_in_vocabulary.fn p t = fun _ => 1#1)
    (i : Cert.Pre_finite_in_vocabulary.S4096x32768.Idx) : ∃ x : ℝ, p i = (x : EReal) := by
  have e := congrFun h (fun d => d.elim0)
  obtain ⟨a, -⟩ := IntOp.andi_eq_one.1 e
  obtain ⟨a, -⟩ := IntOp.andi_eq_one.1 a
  have hc : Ideal.cmp .olt (max (p i) (-(p i))) (Ideal.ofBits .f32 0x7F800000#32) = 1#1 :=
    Host.reduce_andi_all _ _ _ _ _ a i
  have htop : Ideal.ofBits .f32 0x7F800000#32 = ⊤ := by simp [Ideal.ofBits, Ideal.ieee]
  rw [htop] at hc
  induction hp : p i using EReal.rec with
  | bot => rw [hp] at hc; exact absurd hc (by simp [Ideal.cmp])
  | top => rw [hp] at hc; exact absurd hc (by simp [Ideal.cmp])
  | coe x => exact ⟨x, rfl⟩

/-- At the words, the host's conversion of a token and the tile's conversion back give the token. -/
theorem convert_back_bits (w : BitVec 32) (h : w.toNat < 32768) :
    FloatOps.fptosi (F := Bits) 32 (FloatOps.sitofp (F := Bits) .f32 w) = w := by
  have e : w = BitVec.ofNat 32 w.toNat := (BitVec.ofNat_toNat 32 w).symm ▸ by simp
  show Bits.fptosi32 32 (Bits.sitofp32 w) = w
  rw [e, Bits.sitofp32_ofNat (by omega), Bits.fptosi32_nat _ (by omega)]

/-- At the extended reals likewise. -/
theorem convert_back_ideal (w : BitVec 32) (h : w.toNat < 32768) :
    FloatOps.fptosi (F := Ideal) 32 (FloatOps.sitofp (F := Ideal) .f32 w) = w := by
  show Ideal.fptosi 32 (((w.toInt : ℝ)) : EReal) = w
  have hi : w.toInt = w.toNat := by rw [BitVec.toInt_eq_toNat_cond]; split <;> omega
  rw [Ideal.fptosi, Ideal.toIntClamped_coe, hi]
  have h0 : (0 : ℝ) ≤ ((w.toNat : ℤ) : ℝ) := by positivity
  rw [if_pos h0, Int.floor_intCast, min_eq_right (by norm_num; omega), max_eq_right (by norm_num)]
  simp

end Cert.Proof

end
-- ==== Proof.Same.lean ====
/-
  At the device's words the kernel and its idealization are one program: a named constant is the word it is printed for. So a
  run of the one is a run of the other.
-/
module

public import proofs.«01_k».proof.Kernel
public import proofs.«01_k».proof.Proof.Common
public import proofs.«01_k».proof.Proof.Gen.Kernel
public import proofs.«01_k».proof.Proof.Gen.KernelIdeal

@[expose] public section

noncomputable section

namespace Cert.Proof

open Idealize.ShloMosaic Idealize.SL.Sem

set_option maxHeartbeats 400000 in
/-- The kernels' bodies. -/
theorem bodies_same : Cert.Kernel.defs₀ (F := Bits) = Cert.KernelIdeal.defs₀ (F := Bits) := by
  funext p l a
  match p, l, a with
  | .tc, 0, _ => rfl
  | .tc, 1, (_, _) => rfl
  | .tc, 2, (_, _) => rfl
  | .scScalar _, 0, _ => rfl
  | .scScalar _, 1, _ => rfl
  | .scScalar _, 2, _ => rfl
  | .scVector _ _, 0, _ => rfl
  | .scVector _ _, 1, _ => rfl
  | .scVector _ _, 2, _ => rfl

set_option maxHeartbeats 400000 in
/-- The table of everything the program calls. -/
theorem table_same : Cert.Kernel.defs (F := Bits) = Cert.KernelIdeal.defs (F := Bits) := by
  have h := congrArg (fun b => (Cert.KernelIdeal.sc (F := Bits)).defs (Pipeline.defs (Cert.KernelIdeal.pcfgs (F := Bits)) b)) bodies_same
  exact h

set_option maxHeartbeats 400000 in
/-- What the threads run. -/
theorem threads_same : Cert.Kernel.threads (F := Bits) = Cert.KernelIdeal.threads (F := Bits) := (rfl)

/-- A run with one table and one set of threads is a run with equal ones. -/
theorem run_of_same {nD : ℕ} {τ : Topo} {sig : RefSig} {Val : EltTy → Type} {Λ : Labels} {d d' : Defs nD τ sig Val Λ}
    {t t' : (c : Thread nD τ) → Prog (TpuEff nD τ sig Val Λ c.2) PUnit} (hd : d = d') (ht : t = t') {s : MemSt nD τ sig Val}
    {Q : PUnit × MemSt nD τ sig Val → Prop} (h : θ_run d' t' s Q) : θ_run d t s Q := by
  subst hd; subst ht; exact h

end Cert.Proof

end
-- ==== Proof.Frames.lean ====
/-
  The frames: the kernel's, its idealization's, the reference's. The kernel's is the idealization's run taken at the device's
  words, where the two programs are the same text.
-/
module

public import proofs.«01_k».proof.Defs
public import proofs.«01_k».proof.Proof.Pre
public import proofs.«01_k».proof.Proof.Same
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem

/-- A tile reads of a row's token, converted by the host and back, the token. -/
theorem tokens_ok {F : FTy → Type} [FloatOps F] [Named F] (m : (ℓ : Loc Cert.KernelIdeal.nD Cert.KernelIdeal.τ Cert.KernelIdeal.sig) → Buf (Elt F) ℓ)
    (hback : ∀ w : BitVec 32, w.toNat < 32768 → FloatOps.fptosi (F := F) 32 (FloatOps.sitofp (F := F) .f32 w) = w)
    (h : ∀ d i, ((m (tLoc d)) i).toNat < 32768) : TokensOk m := by
  intro d r
  show (FloatOps.fptosi (F := F) 32 (FloatOps.sitofp (F := F) .f32 ((m (tLoc d)) (ValueIdx.ix1 (Fin.ofNat 4096 r))))).toNat < 32768
  rw [hback _ (h d _)]; exact h d _

/-- The kernel terminates without a fault, its arguments unchanged, every semaphore at zero. -/
theorem frame_kernel : Cert.quiescent_Kernel := fun m ρ hpre =>
  run_of_same table_same threads_same ((θ_run Cert.KernelIdeal.defs _ _).mono (fun _ h => ⟨fun c => ⟨(h.1 c).1, (h.1 c).2.1⟩, h.2⟩)
    (run_main (F := Bits) m ρ (tokens_ok (F := Bits) m convert_back_bits fun d i => tokens_below _ _ (hpre d) i)))

/-- The idealized kernel's frame. -/
theorem frame_ideal : Cert.quiescent_KernelIdeal := fun m ρ hpre =>
  (θ_run Cert.KernelIdeal.defs _ _).mono (fun _ h => ⟨fun c => ⟨(h.1 c).1, (h.1 c).2.1⟩, h.2⟩)
    (run_main (F := Ideal) m ρ (tokens_ok (F := Ideal) m convert_back_ideal fun d i => tokens_below _ _ (hpre d) i))

/-- The same at the value claim's precondition. -/
theorem frame_ideal_finite : Cert.quiescent_KernelIdeal_pre_finite_in_vocabulary := fun m ρ hpre =>
  (θ_run Cert.KernelIdeal.defs _ _).mono (fun _ h => ⟨fun c => ⟨(h.1 c).1, (h.1 c).2.1⟩, h.2⟩)
    (run_main (F := Ideal) m ρ (tokens_ok (F := Ideal) m convert_back_ideal fun d i => finite_tokens_below _ _ (hpre d) i))

/-- The reference's frame; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite_in_vocabulary := fun m ρ _ =>
  frame_reference m ρ trivial

/-- The three named constants, each the word it is printed for. -/
theorem preserves : Cert.preserves_Kernel_KernelIdeal :=
  ⟨IdealRules.named_const.statement Cert.KernelIdeal.κ "redistributed_minus_confidence" .f32 0xBF666633#32 _ rfl,
    IdealRules.named_const.statement Cert.KernelIdeal.κ "row_entropy" .f32 0xBFAEB1B0#32 _ rfl,
    IdealRules.named_const.statement Cert.KernelIdeal.κ "redistributed" .f32 0x364CD000#32 _ rfl⟩

end Cert.Proof

end
-- ==== Proof.RowMath.lean ====
/-
  The mathematics over the real numbers. The smoothed target of a row is `r` at every column but two: `c` at the token's
  column, 0 at the padding's. A row's term of the loss is then `r` times (its first entry less its sum), plus `r - c` times
  its token's entry, plus a constant, the row's entropy.
-/
module

public import Mathlib.Analysis.SpecialFunctions.Log.Basic
public import Mathlib.Data.EReal.Operations

@[expose] public section

noncomputable section

namespace Cert.Proof

open Finset

/-- The probability of each other token. -/
def rr : ℝ := 1 / 327660
/-- The token's own. -/
def cc : ℝ := 9 / 10
/-- A row's entropy, as the kernel's constant has it. -/
def kk : ℝ := (1 / 10) * Real.log (129140163 / 109220000000000)

/-- The entropy: 32766 columns at `r`, one at `c`. -/
theorem kk_eq : kk = 32766 * (rr * Real.log rr) + cc * Real.log cc := by
  have e : (129140163 / 109220000000000 : ℝ) = rr * cc ^ 9 := by unfold rr cc; norm_num
  have hr : rr ≠ 0 := by unfold rr; norm_num
  have hc : cc ^ 9 ≠ 0 := by unfold cc; norm_num
  rw [kk, e, Real.log_mul hr hc, Real.log_pow]
  have a : (32766 : ℝ) * rr = 1 / 10 := by unfold rr; norm_num
  have b : cc = 9 / 10 := rfl
  calc (1 / 10 : ℝ) * (Real.log rr + ((9 : ℕ) : ℝ) * Real.log cc) = (1 / 10) * Real.log rr + (9 / 10) * Real.log cc := by push_cast; ring
    _ = 32766 * rr * Real.log rr + cc * Real.log cc := by rw [a, b]
    _ = _ := by ring

/-- One column's term of the loss in a row whose token is `t`, not the padding. -/
def entry (p : ℕ → ℝ) (t j : ℕ) : ℝ :=
  if j = 0 then 0 else if j = t then cc * Real.log cc - cc * p j else rr * Real.log rr - rr * p j

/-- A row's terms add up to what the kernel adds for the row. -/
theorem row_sum (p : ℕ → ℝ) (t : ℕ) (ht : t ≠ 0) (hlt : t < 32768) :
    ∑ j ∈ range 32768, entry p t j = (rr * p 0 - rr * ∑ j ∈ range 32768, p j) + ((rr - cc) * p t + kk) := by
  have e : ∀ j ∈ range 32768, entry p t j = (rr * Real.log rr - rr * p j)
      + (if j = 0 then rr * p 0 - rr * Real.log rr else 0)
      + (if j = t then (cc * Real.log cc - cc * p t) - (rr * Real.log rr - rr * p t) else 0) := by
    intro j _
    unfold entry
    by_cases h0 : j = 0
    · subst h0; rw [if_pos rfl, if_pos rfl, if_neg (Ne.symm ht)]; ring
    · by_cases h1 : j = t
      · subst h1; rw [if_neg h0, if_pos rfl, if_neg h0, if_pos rfl]; ring
      · rw [if_neg h0, if_neg h1, if_neg h0, if_neg h1]; ring
  rw [sum_congr rfl e, sum_add_distrib, sum_add_distrib, sum_sub_distrib, sum_ite_eq', sum_ite_eq',
    if_pos (mem_range.2 (by norm_num)), if_pos (mem_range.2 hlt), sum_const, card_range, ← mul_sum, nsmul_eq_mul, kk_eq]
  push_cast
  ring

/-- A sum over blocks of `b` is a sum over their members. -/
theorem sum_blocks (g : ℕ → ℝ) (b : ℕ) : ∀ n, ∑ i ∈ range n, ∑ j ∈ range b, g (b * i + j) = ∑ r ∈ range (b * n), g r
  | 0 => by simp
  | n + 1 => by rw [sum_range_succ, sum_blocks g b n, Nat.mul_succ, sum_range_add]

/-- A sum of real numbers, taken over the extended reals. -/
theorem coe_sum {ι : Type} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

/-- A sum over a bounded index, of a function of its number. -/
theorem sum_fin {M : Type} [AddCommMonoid M] (n : ℕ) (f : ℕ → M) : ∑ i : Fin n, f i = ∑ i ∈ Finset.range n, f i :=
  Fin.sum_univ_eq_sum_range f n

/-- The kernel's term of a row. -/
def rowTerm (p : ℕ → ℕ → ℝ) (t : ℕ → ℕ) (r : ℕ) : ℝ :=
  if t r = 0 then 0 else (rr * p r 0 - rr * ∑ j ∈ range 32768, p r j) + ((rr - cc) * p r (t r) + kk)

/-- What one block of 128 rows adds. -/
def blockReal (p : ℕ → ℕ → ℝ) (t : ℕ → ℕ) (b : ℕ) : ℝ :=
  rr * (∑ j ∈ range 128, if t (128 * b + j) = 0 then 0 else p (128 * b + j) 0)
    - rr * (∑ j ∈ range 128, if t (128 * b + j) = 0 then 0 else ∑ k ∈ range 32768, p (128 * b + j) k)

/-- What a row adds to a lane of its partial sums. -/
def laneReal (p : ℕ → ℕ → ℝ) (t : ℕ → ℕ) (l r : ℕ) : ℝ :=
  if t r ≠ 0 ∧ t r % 16 = l then (rr - cc) * p r (t r) + kk else 0

/-- A row's lanes hold its token's term, once. -/
theorem lanes_sum (p : ℕ → ℕ → ℝ) (t : ℕ → ℕ) (r : ℕ) :
    ∑ l ∈ range 16, laneReal p t l r = if t r = 0 then 0 else (rr - cc) * p r (t r) + kk := by
  unfold laneReal
  by_cases h : t r = 0
  · simp [h]
  · simp only [h, ne_eq, not_false_eq_true, true_and, if_false]
    rw [sum_ite_eq, if_pos (mem_range.2 (Nat.mod_lt _ (by norm_num)))]

/-- All the kernel adds up, row by row. -/
theorem kernel_sum (p : ℕ → ℕ → ℝ) (t : ℕ → ℕ) :
    ∑ b ∈ range 32, blockReal p t b + ∑ w ∈ range 32, ∑ l ∈ range 16, ∑ n ∈ range 128, laneReal p t l (128 * w + n)
      = ∑ r ∈ range 4096, rowTerm p t r := by
  have e : ∀ b ∈ range 32, blockReal p t b
      = ∑ j ∈ range 128, (if t (128 * b + j) = 0 then 0 else rr * p (128 * b + j) 0 - rr * ∑ k ∈ range 32768, p (128 * b + j) k) := by
    intro b _
    unfold blockReal
    rw [mul_sum, mul_sum, ← sum_sub_distrib]
    refine sum_congr rfl fun j _ => ?_
    split <;> ring
  have e' : ∀ w ∈ range 32, ∑ l ∈ range 16, ∑ n ∈ range 128, laneReal p t l (128 * w + n)
      = ∑ n ∈ range 128, (if t (128 * w + n) = 0 then 0 else (rr - cc) * p (128 * w + n) (t (128 * w + n)) + kk) := by
    intro w _
    rw [sum_comm]
    exact sum_congr rfl fun n _ => lanes_sum p t _
  rw [sum_congr rfl e, sum_congr rfl e',
    sum_blocks (fun r => if t r = 0 then 0 else rr * p r 0 - rr * ∑ k ∈ range 32768, p r k) 128 32,
    sum_blocks (fun r => if t r = 0 then 0 else (rr - cc) * p r (t r) + kk) 128 32, ← sum_add_distrib]
  refine sum_congr rfl fun r _ => ?_
  unfold rowTerm
  split <;> ring

end Cert.Proof

end
-- ==== Proof.LaneValue.lean ====
/-
  The SparseCore call's partial sums over the extended reals, where the table's entries are real numbers: lane `l` of tile
  `w` holds the sum, over the tile's 128 rows, of the terms of those whose token's low four bits are `l`.
-/
module

public import proofs.«01_k».proof.Proof.Tile
public import proofs.«01_k».proof.Proof.RowMath
public import Idealize.ShloMosaic.PureOps.Ideal.Laws

@[expose] public section

noncomputable section

namespace Cert.Proof

open Cert.KernelIdeal Cert.KernelIdeal.Gen
open Idealize.ShloMosaic

/-! ## The named constants -/

theorem named_r : Named.named (F := Ideal) κ "redistributed" (φ := .f32) 0x364CD000#32 = ((rr : ℝ) : EReal) :=
  IdealRules.named_const.ideal_named_scalar _ _ _ _ rfl

theorem named_rc : Named.named (F := Ideal) κ "redistributed_minus_confidence" (φ := .f32) 0xBF666633#32 = ((rr - cc : ℝ) : EReal) := by
  have e : (rr - cc : ℝ) = -294893 / 327660 := by unfold rr cc; norm_num
  rw [e]
  exact IdealRules.named_const.ideal_named_scalar _ _ _ _ rfl

theorem named_k : Named.named (F := Ideal) κ "row_entropy" (φ := .f32) 0xBFAEB1B0#32 = ((kk : ℝ) : EReal) :=
  IdealRules.named_const.ideal_named_scalar _ _ _ _ rfl

/-! ## The lane of a token -/

theorem laneOf_eq (v : BitVec 32) : laneOf v = if v = 0#32 then 4294967295#32 else v &&& 15#32 := by
  unfold laneOf
  by_cases h : v = 0#32
  · subst h; rfl
  · have e : (v != 0#32) = true := by simpa using h
    simp [Scalar.cmpi, IntOp.cmpi, Scalar.select, Scalar.andi, IntOp.andi, h, e]

/-- Lane `l` is the token's exactly when the token is not the padding and its low four bits are `l`. -/
theorem lane_iff (v : BitVec 32) (l : ℕ) (hl : l < 16) : BitVec.ofNat 32 l = laneOf v ↔ v.toNat ≠ 0 ∧ v.toNat % 16 = l := by
  rw [laneOf_eq]
  have hl' : (BitVec.ofNat 32 l).toNat = l := by rw [BitVec.toNat_ofNat]; exact Nat.mod_eq_of_lt (by omega)
  by_cases h : v = 0#32
  · subst h
    rw [if_pos rfl]
    constructor
    · intro e; have := congrArg BitVec.toNat e; rw [hl'] at this; simp at this; omega
    · intro e; simp at e
  · have h' : v.toNat ≠ 0 := fun e => h (BitVec.eq_of_toNat_eq (by rw [e]; rfl))
    have ha : (v &&& 15#32).toNat = v.toNat % 16 := by
      rw [BitVec.toNat_and]; exact Nat.and_two_pow_sub_one_eq_mod v.toNat 4
    rw [if_neg h]
    constructor
    · intro e; have := congrArg BitVec.toNat e; rw [hl', ha] at this; exact ⟨h', this.symm⟩
    · intro e; exact BitVec.eq_of_toNat_eq (by rw [hl', ha]; exact e.2.symm)

/-- The token's own column, of the staged window's columns. -/
theorem own_column (v : ℕ) : v / 128 * 128 + (v % 128 / 16 * 16 + v % 16) = v := by omega

/-! ## The partial sums -/

variable (fp : PBuf Ideal) (p : ℕ → ℕ → ℝ) (hp : ∀ r c, pAt fp r c = ((p r c : ℝ) : EReal))

include hp

/-- One row's step, at a lane. -/
theorem rowStep_at (v : BitVec 32) (r : ℕ) (acc : FVec Ideal S16 .f32) (l : S16.Idx) (a : ℝ) (ha : acc l = ((a : ℝ) : EReal)) :
    rowStep fp v r acc l
      = ((a + (if v.toNat ≠ 0 ∧ v.toNat % 16 = (l 0 : ℕ) then (rr - cc) * p r v.toNat + kk else 0) : ℝ) : EReal) := by
  have hid : laneIds l = BitVec.ofNat 32 (l 0) := iota_single_apply ..
  show acc l + Scalar.select (IntOp.cmpi .eq (laneIds l) (laneOf v))
    (Named.named (F := Ideal) κ "redistributed_minus_confidence" (φ := .f32) 0xBF666633#32
        * pAt fp r (v.toNat / 128 * 128 + (v.toNat % 128 / 16 * 16 + l 0))
      + Named.named (F := Ideal) κ "row_entropy" (φ := .f32) 0xBFAEB1B0#32) (Ideal.ofBits .f32 0x00000000#32) = _
  rw [hid, named_rc, named_k, ha, Ideal.ofBits_zero_f32, hp]
  by_cases h : v.toNat ≠ 0 ∧ v.toNat % 16 = (l 0 : ℕ)
  · rw [if_pos h, (lane_iff v (l 0) (l 0).isLt).2 h, show IntOp.cmpi .eq (laneOf v) (laneOf v) = 1#1 from by simp [IntOp.cmpi],
      ← h.2, own_column]
    show ((a : ℝ) : EReal) + (((rr - cc : ℝ) : EReal) * ((p r v.toNat : ℝ) : EReal) + ((kk : ℝ) : EReal)) = _
    push_cast; rfl
  · rw [if_neg h, show IntOp.cmpi .eq (BitVec.ofNat 32 (l 0)) (laneOf v) = 0#1 from by
      have : ¬ BitVec.ofNat 32 (l 0) = laneOf v := fun e => h ((lane_iff v (l 0) (l 0).isLt).1 e)
      have e : (BitVec.ofNat 32 (l 0) == laneOf v) = false := by simpa using this
      simp only [IntOp.cmpi, e]; rfl]
    show ((a : ℝ) : EReal) + 0 = _
    rw [add_zero, add_zero]

/-- The accumulator after `n` rows, at a lane. -/
theorem rowsAcc_at (tok : ℕ → BitVec 32) (t : ℕ → ℕ) (b : ℕ) (ht : ∀ n, (tok n).toNat = t (b + n)) (l : S16.Idx) :
    ∀ n, rowsAcc fp tok b n l = ((∑ i ∈ Finset.range n, laneReal p t (l 0) (b + i) : ℝ) : EReal)
  | 0 => by
    show Ideal.ofBits .f32 0x00000000#32 = _
    rw [Ideal.ofBits_zero_f32, Finset.sum_range_zero]; rfl
  | n + 1 => by
    show rowStep fp (tok n) (b + n) (rowsAcc fp tok b n) l = _
    rw [rowStep_at fp p hp _ _ _ l _ (rowsAcc_at tok t b ht l n), Finset.sum_range_succ, ht n]
    rfl

/-- The call's result. -/
theorem sums_at (ft : S4096.Idx → Elt Ideal .f32) (t : ℕ → ℕ) (ht : ∀ r, (tokRow ft r).toNat = t r) (i : S32x16.Idx) :
    sums fp ft i = ((∑ n ∈ Finset.range 128, laneReal p t (i 1) (128 * (i 0 : ℕ) + n) : ℝ) : EReal) :=
  rowsAcc_at fp p hp (fun r => tokRow ft (128 * (i 0 : ℕ) + r)) t (128 * (i 0 : ℕ)) (fun _ => ht _) (ValueIdx.ix1 (i 1)) 128

end Cert.Proof

end
-- ==== Proof.BlockValue.lean ====
/-
  The TensorCore calls over the extended reals, where the table's entries are real numbers: what a block of rows adds, the
  running total over the blocks, and the last call's sum.
-/
module

public import proofs.«01_k».proof.Proof.LaneValue
public import proofs.«01_k».proof.Proof.RowBlocks

@[expose] public section

noncomputable section

namespace Cert.Proof

open Cert.KernelIdeal Cert.KernelIdeal.Gen
open Idealize.ShloMosaic

/-! ## A total over a vector, as the kernels take it -/

/-- The sum of a column of 128, taken through the one-row shapes a total reduction goes by. -/
theorem column_total (y : FVec Ideal S128x1 .f32) :
    extractAt ![0, 0, 0] (shapeCast S1x1x1 (multiReduction .add [1, 2] S1 (shapeCast S1x128x1 y shapeCasts_S128x1_S1x128x1) 0x00000000#32
        reduces_S1x128x1_S1 (.inl rfl) rfl : FVec Ideal S1 .f32) shapeCasts_S1_S1x1x1) inpos_S1x1x1_p0_0_0
      = ∑ a : Fin 128, y (ValueIdx.ix2 a 0) := by
  refine (Ideal.multiReduction_add_total (φ := .f32) _ _ reduces_S1x128x1_S1 (by decide) (.inl rfl) rfl _).trans ?_
  refine (Equiv.sum_comp (Shape.reshapeEquiv shapeCasts_S128x1_S1x128x1) y).trans ?_
  refine (ValueIdx.sum_idx2 y).trans ?_
  refine Finset.sum_congr rfl fun a _ => ?_
  rw [Fin.sum_univ_one]

/-- The sum of the tiles' lanes likewise. -/
theorem lanes_total (y : FVec Ideal S32x16 .f32) :
    extractAt ![0, 0, 0] (shapeCast S1x1x1 (multiReduction .add [1, 2] S1 (shapeCast S1x32x16 y shapeCasts_S32x16_S1x32x16) 0x00000000#32
        reduces_S1x32x16_S1 (.inl rfl) rfl : FVec Ideal S1 .f32) shapeCasts_S1_S1x1x1) inpos_S1x1x1_p0_0_0
      = ∑ w : Fin 32, ∑ l : Fin 16, y (ValueIdx.ix2 w l) := by
  refine (Ideal.multiReduction_add_total (φ := .f32) _ _ reduces_S1x32x16_S1 (by decide) (.inl rfl) rfl _).trans ?_
  refine (Equiv.sum_comp (Shape.reshapeEquiv shapeCasts_S32x16_S1x32x16) y).trans ?_
  exact ValueIdx.sum_idx2 y

/-- The sum of one row of a block. -/
theorem row_total (x : FVec Ideal S128x32768 .f32) (a : Fin 128) :
    (multiReduction .add [1] S128 x 0x00000000#32 reduces_S128x32768_S128 (.inl rfl) rfl : FVec Ideal S128 .f32) (ValueIdx.ix1 a)
      = ∑ k : Fin 32768, x (ValueIdx.ix2 a k) := by
  refine (Ideal.multiReduction_add_single (φ := .f32) _ _ reduces_S128x32768_S128 (.inl rfl) rfl _).trans ?_
  refine Finset.sum_congr rfl fun k _ => congrArg x ?_
  funext b
  match b with
  | ⟨0, _⟩ => rfl
  | ⟨1, _⟩ => rfl

/-! ## A block of rows -/

variable (p : ℕ → ℕ → ℝ) (tn : ℕ → ℕ)

/-- A selection by a token's not being the padding. -/
theorem select_token (w : BitVec 32) (a b : EReal) :
    Scalar.select (IntOp.cmpi .ne w 0#32) a b = if w.toNat = 0 then b else a := by
  by_cases h : w = 0#32
  · subst h; rfl
  · have h' : w.toNat ≠ 0 := fun e => h (BitVec.eq_of_toNat_eq (by rw [e]; rfl))
    have e : (w != 0#32) = true := by simpa using h
    rw [if_neg h']
    simp only [IntOp.cmpi, e]
    rfl

/-- What block `b` of the rows adds to the total. -/
theorem block_at (b : ℕ) (x : FVec Ideal S128x32768 .f32) (t : IVec S128x1 32)
    (hx : ∀ (a : Fin 128) (k : Fin 32768), x (ValueIdx.ix2 a k) = ((p (128 * b + a) k : ℝ) : EReal))
    (ht : ∀ a : Fin 128, (t (ValueIdx.ix2 a 0)).toNat = tn (128 * b + a)) :
    blockTotal (F := Ideal) x t = ((blockReal p tn b : ℝ) : EReal) := by
  have hcast : shapeCast S128x1 t shapeCasts_S128x1_S128x1 = t := shapeCast_self t _
  have hrow : ∀ a : Fin 128, shapeCast S128x1 (multiReduction .add [1] S128 x 0x00000000#32 reduces_S128x32768_S128 (.inl rfl) rfl : FVec Ideal S128 .f32)
      shapeCasts_S128_S128x1 (ValueIdx.ix2 a 0) = ((∑ k ∈ Finset.range 32768, p (128 * b + a) k : ℝ) : EReal) := fun a => by
    refine (shapeCast_apply _ _ _ (ValueIdx.ix1 a) (by rw [Shape.rowMajor_val_one, Shape.rowMajor_val_two]; simp)).trans ?_
    rw [row_total, ← sum_fin, ← coe_sum]
    exact Finset.sum_congr rfl fun k _ => hx a k
  have hcol : ∀ a : Fin 128, (firstCol (F := Ideal) x : FVec Ideal S128x1 .f32) (ValueIdx.ix2 a 0) = ((p (128 * b + a) 0 : ℝ) : EReal) := fun a => by
    refine Eq.trans (congrArg x ?_) (hx a 0)
    funext c
    match c with
    | ⟨0, _⟩ => exact Fin.ext (by show 0 + 1 * a.val = a.val; omega)
    | ⟨1, _⟩ => rfl
  have hsel : ∀ (y : FVec Ideal S128x1 .f32) (g : ℕ → ℝ), (∀ a : Fin 128, y (ValueIdx.ix2 a 0) = ((g (128 * b + a) : ℝ) : EReal)) →
      ∑ a : Fin 128, select (cmpi .ne t (broadcast S128x1 0#32)) y (broadcast S128x1 (Scalar.ofBits (F := Ideal) .f32 0x00000000#32)) (ValueIdx.ix2 a 0)
        = ((∑ j ∈ Finset.range 128, (if tn (128 * b + j) = 0 then 0 else g (128 * b + j)) : ℝ) : EReal) := fun y g hy => by
    rw [← sum_fin, ← coe_sum]
    refine Finset.sum_congr rfl fun a _ => ?_
    refine (select_token (t (ValueIdx.ix2 a 0)) (y (ValueIdx.ix2 a 0)) (Ideal.ofBits .f32 0x00000000#32)).trans ?_
    rw [ht a, hy a, Ideal.ofBits_zero_f32]
    by_cases h : tn (128 * b + a) = 0
    · rw [if_pos h, if_pos h]; rfl
    · rw [if_neg h, if_neg h]
  unfold blockTotal k1_pay1
  dsimp only
  rw [column_total, column_total, hcast]
  show Named.named (F := Ideal) κ "redistributed" (φ := .f32) 0x364CD000#32 * _ - Named.named (F := Ideal) κ "redistributed" (φ := .f32) 0x364CD000#32 * _ = _
  rw [named_r, hsel _ (fun r => ∑ k ∈ Finset.range 32768, p r k) hrow, hsel _ (fun r => p r 0) hcol]
  unfold blockReal
  push_cast
  rfl

/-! ## The running total, and the whole -/

variable (W : Dev nD → Valuation τ sig (Elt Ideal)) (c : Dev nD)

theorem point_val (t : Fin cfg1.N) : (grid1.coords t 0 : ℕ) = t.val := by
  have ht : t.val < 32 := lt_of_lt_of_eq t.isLt N_1
  rw [Pipeline.Grid.coords_val t 0 (S := 1) (B := 32) (by decide) (by decide)]; omega

/-- A block's entry is the table's. -/
theorem rowsBlk_apply (t : Fin cfg1.N) (a : Fin 128) (k : Fin 32768) :
    rowsBlk W c t (ValueIdx.ix2 a k) = pAt (W c (Proc.devRef .tc main_arg0)) (128 * t.val + a) k := by
  have ht : t.val < 32 := lt_of_lt_of_eq t.isLt N_1
  refine congrArg (W c (Proc.devRef .tc main_arg0) : S4096x32768.Idx → EReal) (funext fun d => Fin.ext ?_)
  refine (Pipeline.Window.rect_emb_val win1_0 t (ValueIdx.ix2 a k) d).trans ?_
  match d with
  | ⟨0, _⟩ =>
    show (BitVec.ofNat 32 (grid1.coords t 0).val).toNat * 128 + a.val = (128 * t.val + a.val) % 4096
    rw [point_val, BitVec.toNat_ofNat]
    have := a.isLt
    omega
  | ⟨1, _⟩ =>
    show 0 * 32768 + k.val = k.val % 32768
    have := k.isLt
    omega

/-- A block's token is the column's. -/
theorem tgtBlk_apply (t : Fin cfg1.N) (a : Fin 128) :
    tgtBlk W c t (ValueIdx.ix2 a 0) = (W c (Proc.devRef .tc main_v2) : S4096x1.Idx → BitVec 32) (ValueIdx.ix2 (Fin.ofNat 4096 (128 * t.val + a)) 0) := by
  have ht : t.val < 32 := lt_of_lt_of_eq t.isLt N_1
  refine congrArg (W c (Proc.devRef .tc main_v2) : S4096x1.Idx → BitVec 32) (funext fun d => Fin.ext ?_)
  refine (Pipeline.Window.rect_emb_val win1_1 t (ValueIdx.ix2 a 0) d).trans ?_
  match d with
  | ⟨0, _⟩ =>
    show (BitVec.ofNat 32 (grid1.coords t 0).val).toNat * 128 + a.val = (128 * t.val + a.val) % 4096
    rw [point_val, BitVec.toNat_ofNat]
    have := a.isLt
    omega
  | ⟨1, _⟩ => rfl

/-- The last call reads its two arguments whole. -/
theorem totBlk_apply : totBlk W c (ValueIdx.ix2 0 0) = (W c (Proc.devRef .tc main_v3) : S1x1.Idx → EReal) (ValueIdx.ix2 0 0) :=
  congrArg (W c (Proc.devRef .tc main_v3) : S1x1.Idx → EReal) (word_idx _ _)

theorem partBlk_apply (w : Fin 32) (l : Fin 16) :
    partBlk W c (ValueIdx.ix2 w l) = (W c (Proc.devRef .tc main_v1) : S32x16.Idx → EReal) (ValueIdx.ix2 w l) := by
  refine congrArg (W c (Proc.devRef .tc main_v1) : S32x16.Idx → EReal) (funext fun d => Fin.ext ?_)
  refine (Pipeline.Window.rect_emb_val win2_1 _ (ValueIdx.ix2 w l) d).trans ?_
  match d with
  | ⟨0, _⟩ => show 0 * 32 + w.val = w.val; omega
  | ⟨1, _⟩ => show 0 * 16 + l.val = l.val; omega

section

variable (hp : ∀ r k, pAt (W c (Proc.devRef .tc main_arg0)) r k = ((p r k : ℝ) : EReal))
  (ht : ∀ r, ((W c (Proc.devRef .tc main_v2) : S4096x1.Idx → BitVec 32) (ValueIdx.ix2 (Fin.ofNat 4096 r) 0)).toNat = tn r)

include hp ht

theorem block_of_table (t : Fin cfg1.N) :
    blockTotal (F := Ideal) (rowsBlk W c t) (tgtBlk W c t) = ((blockReal p tn t.val : ℝ) : EReal) :=
  block_at p tn t.val (rowsBlk W c t) (tgtBlk W c t) (fun a k => (rowsBlk_apply W c t a k).trans (hp _ _))
    (fun a => (congrArg BitVec.toNat (tgtBlk_apply W c t a)).trans (ht _))

/-- The running total after the first `n + 1` blocks. -/
theorem totalAt_eq : ∀ n, n < 32 → totalAt W c n = ((∑ b ∈ Finset.range (n + 1), blockReal p tn b : ℝ) : EReal)
  | 0, _ => by
    unfold totalAt
    rw [block_of_table p tn W c hp ht, Finset.sum_range_one]
  | n + 1, h => by
    have h' : n + 1 < cfg1.N := lt_of_lt_of_eq h N_1.symm
    rw [totalAt, dif_pos h', block_of_table p tn W c hp ht, totalAt_eq n (by omega), Finset.sum_range_succ _ (n + 1), EReal.coe_add]
    rfl

end

/-- The last call's word: the total and the sum of the lanes. -/
theorem last_word (a : ℝ) (g : ℕ → ℕ → ℝ) (z : EReal) (y : FVec Ideal S32x16 .f32) (hz : z = ((a : ℝ) : EReal))
    (hy : ∀ (w : Fin 32) (l : Fin 16), y (ValueIdx.ix2 w l) = ((g w l : ℝ) : EReal)) :
    k2_pay1 (F := Ideal) z y = ((a + ∑ w ∈ Finset.range 32, ∑ l ∈ Finset.range 16, g w l : ℝ) : EReal) := by
  have hcast : shapeCast S32x16 y shapeCasts_S32x16_S32x16 = y := shapeCast_self _ _
  have e : ∑ w : Fin 32, ∑ l : Fin 16, y (ValueIdx.ix2 w l) = ((∑ w ∈ Finset.range 32, ∑ l ∈ Finset.range 16, g w l : ℝ) : EReal) := by
    rw [← sum_fin, ← coe_sum]
    refine Finset.sum_congr rfl fun w _ => ?_
    rw [← sum_fin, ← coe_sum]
    exact Finset.sum_congr rfl fun l _ => hy w l
  unfold k2_pay1
  dsimp only
  rw [hcast, lanes_total, e, hz, EReal.coe_add]
  rfl

/-- The last call's result. -/
theorem combined_eq (a : ℝ) (g : ℕ → ℕ → ℝ)
    (ha : (W c (Proc.devRef .tc main_v3) : S1x1.Idx → EReal) (ValueIdx.ix2 0 0) = ((a : ℝ) : EReal))
    (hg : ∀ (w : Fin 32) (l : Fin 16), (W c (Proc.devRef .tc main_v1) : S32x16.Idx → EReal) (ValueIdx.ix2 w l) = ((g w l : ℝ) : EReal)) :
    combined W c = ((a + ∑ w ∈ Finset.range 32, ∑ l ∈ Finset.range 16, g w l : ℝ) : EReal) :=
  last_word a g _ _ ((totBlk_apply W c).trans ha) fun w l => (partBlk_apply W c w l).trans (hg w l)

end Cert.Proof

end
-- ==== Proof.KernelValue.lean ====
/-
  The idealized kernel's result, where the table's entries are real numbers and the tokens name its columns: the sum of the
  rows' terms.
-/
module

public import proofs.«01_k».proof.Proof.BlockValue
public import proofs.«01_k».proof.Proof.Main
public import proofs.«01_k».proof.Proof.Pre

@[expose] public section

noncomputable section

namespace Cert.Proof

open Cert.KernelIdeal Cert.KernelIdeal.Gen
open Idealize.ShloMosaic

variable (m : (ℓ : Loc nD τ sig) → Buf (Elt Ideal) ℓ) (c : Dev nD) (p : ℕ → ℕ → ℝ) (tn : ℕ → ℕ)

/-- The kernel's result is the sum of the rows' terms. -/
theorem loss_eq (hp : ∀ r k, pAt (m (pLoc c)) r k = ((p r k : ℝ) : EReal))
    (ht : ∀ r, ((m (tLoc c) : S4096.Idx → BitVec 32) (ValueIdx.ix1 (Fin.ofNat 4096 r))).toNat = tn r) (hlt : ∀ r, tn r < 32768) :
    loss m c = ((∑ r ∈ Finset.range 4096, rowTerm p tn r : ℝ) : EReal) := by
  have hf : ∀ r, (tokRow (floatTokens m c) r).toNat = tn r := fun r => by
    rw [← ht r]
    exact congrArg BitVec.toNat (convert_back_ideal _ (by rw [ht r]; exact hlt r))
  have ha0 : at3 m c (Proc.devRef .tc main_arg0) = m (pLoc c) :=
    (at3_of_ne m c (by decide)).trans <| (at2_of_ne m c (StableHlo.devRef_ne_of_ne (by decide))).trans (at1_of_ne m c (by decide))
  have ha1 : at2 m c (Proc.devRef .tc main_arg1) = m (tLoc c) :=
    (at2_of_ne m c (StableHlo.devRef_ne_of_ne (by decide))).trans (at1_of_ne m c (by decide))
  have hv1 : at4 m c (Proc.devRef .tc main_v1) = sumsOf m c :=
    (at4_of_ne m c (StableHlo.devRef_ne_of_ne (by decide))).trans <| (at3_of_ne m c (by decide)).trans (at2_sums m c)
  have hcol : ∀ r, ((at3 m c (Proc.devRef .tc main_v2) : S4096x1.Idx → BitVec 32) (ValueIdx.ix2 (Fin.ofNat 4096 r) 0)).toNat = tn r := fun r => by
    rw [← ht r]
    refine congrArg BitVec.toNat ((congrFun (at3_column m c) _).trans ?_)
    refine (shapeCast_apply _ _ _ (ValueIdx.ix1 (Fin.ofNat 4096 r)) (by rw [Shape.rowMajor_val_one, Shape.rowMajor_val_two]; simp)).trans ?_
    exact congrFun ha1 _
  have htot := totalAt_eq p tn (at3 m) c (fun r k => (congrArg (fun z => pAt (F := Ideal) z r k) ha0).trans (hp r k)) hcol 31 (by decide)
  refine (combined_eq (at4 m) c _ (fun w l => ∑ n ∈ Finset.range 128, laneReal p tn l (128 * w + n))
    ((congrFun (at4_total m c) _).trans htot) (fun w l => (congrFun hv1 _).trans (sums_at _ p hp _ tn hf _))).trans ?_
  rw [kernel_sum]

end Cert.Proof

end
-- ==== Proof.Target.lean ====
/-
  The reference's target distribution, element by element: the scatter of the confidence at each row's token and the zeroed
  first column.
-/
module

public import proofs.«01_k».proof.ReferenceIdeal
public import proofs.«01_k».proof.Proof.Gen.ReferenceIdeal
public import proofs.«01_k».proof.Proof.RowMath
public import Idealize.ShloMosaic.Lib.Routing.OpsSet
public import Idealize.ShloMosaic.Lib.Routing.OpsOne
public import Idealize.ShloMosaic.Lib.Routing.OpsPair
public import Idealize.ShloMosaic.Lib.Pointwise
public import Idealize.ShloMosaic.Lib.IdealHost

@[expose] public section

noncomputable section

namespace Cert.Proof.Ref

open Cert.ReferenceIdeal Cert.ReferenceIdeal.Gen
open Idealize.ShloMosaic

/-! ## Where the updates land -/

theorem start_at (k : Fin 4096) (idx : IVec S4096x2 32) (a : Fin 2) :
    scatter_S4096x32768_S4096x2_S4096_n_01_01_1.start (ValueIdx.ix1 k) idx a = (idx (ValueIdx.ix2 k a)).toInt := by
  match a with
  | ⟨0, _⟩ =>
    refine (dif_pos (List.mem_cons_self)).trans (congrArg (fun z => (idx z).toInt) (funext fun b => ?_))
    match b with
    | ⟨0, _⟩ => rfl
    | ⟨1, _⟩ => rfl
  | ⟨1, _⟩ =>
    refine (dif_pos (List.mem_cons_of_mem _ List.mem_cons_self)).trans (congrArg (fun z => (idx z).toInt) (funext fun b => ?_))
    match b with
    | ⟨0, _⟩ => rfl
    | ⟨1, _⟩ => rfl

theorem window_at (k : Fin 4096) (a : Fin 2) : scatter_S4096x32768_S4096x2_S4096_n_01_01_1.window (ValueIdx.ix1 k) a = 0 := by
  match a with
  | ⟨0, _⟩ => rfl
  | ⟨1, _⟩ => rfl

/-- Row `k`'s update lands at the entry its two index words name. -/
theorem lands_at (k : Fin 4096) (idx : IVec S4096x2 32) (r : Fin 4096) (j : Fin 32768) :
    scatter_S4096x32768_S4096x2_S4096_n_01_01_1.resultIdx? (ValueIdx.ix1 k) idx = some (ValueIdx.ix2 r j)
      ↔ (idx (ValueIdx.ix2 k 0)).toInt = r.val ∧ (idx (ValueIdx.ix2 k 1)).toInt = j.val := by
  refine (Routing.resultIdx?_ix2 _ _ _ _ _).trans ?_
  rw [start_at, start_at, window_at, window_at]
  omega

/-- One index word has one place. -/
theorem one_place (z : S1.Idx) : z = ValueIdx.ix1 0 :=
  funext fun b => match b with
  | ⟨0, _⟩ => Subsingleton.elim (α := Fin 1) _ _

/-- A row's update of the first column lands in that column. -/
theorem first_column_at (k : Fin 4096) (idx : IVec S1 32) (h : idx (ValueIdx.ix1 0) = 0#32) (r : Fin 4096) (j : Fin 32768) :
    scatter_S4096x32768_S1_S4096_0_1_1_0.resultIdx? (ValueIdx.ix1 k) idx = some (ValueIdx.ix2 r j) ↔ k = r ∧ j.val = 0 := by
  refine (Routing.resultIdx?_ix2 _ _ _ _ _).trans ?_
  have h0 : scatter_S4096x32768_S1_S4096_0_1_1_0.start (ValueIdx.ix1 k) idx 0 = 0 := dif_neg (by decide)
  have h1 : scatter_S4096x32768_S1_S4096_0_1_1_0.start (ValueIdx.ix1 k) idx 1 = 0 := by
    refine (dif_pos (by decide)).trans ?_
    exact (congrArg (fun z => (idx z).toInt) (one_place _)).trans (by rw [h]; rfl)
  have w0 : scatter_S4096x32768_S1_S4096_0_1_1_0.window (ValueIdx.ix1 k) 0 = k.val := rfl
  have w1 : scatter_S4096x32768_S1_S4096_0_1_1_0.window (ValueIdx.ix1 k) 1 = 0 := rfl
  rw [h0, h1, w0, w1]
  constructor
  · intro h; exact ⟨Fin.ext (by omega), by omega⟩
  · rintro ⟨rfl, h⟩; constructor <;> omega

/-! ## The two values -/

theorem word_one : Ideal.ofBits .f32 0x3F800000#32 = ((1 : ℝ) : EReal) := by simp [Ideal.ofBits, Ideal.ieee, -EReal.coe_mul]; norm_num
theorem word_ten : Ideal.ofBits .f32 0x41200000#32 = ((10 : ℝ) : EReal) := by simp [Ideal.ofBits, Ideal.ieee, -EReal.coe_mul]; norm_num
theorem word_width : Ideal.ofBits .f32 0x46FFFC00#32 = ((32766 : ℝ) : EReal) := by simp [Ideal.ofBits, Ideal.ieee, -EReal.coe_mul]; norm_num

/-- What is spread over the other columns, as the reference computes it, … -/
def spreadWord : FVec Ideal S_ .f32 := Host.divf (Host.divf (constant S_ .f32 0x3F800000#32) (constant S_ .f32 0x41200000#32)) (constant S_ .f32 0x46FFFC00#32)
/-- … and what the token keeps. -/
def keptWord : FVec Ideal S_ .f32 := subf (constant S_ .f32 0x3F800000#32) (Host.divf (constant S_ .f32 0x3F800000#32) (constant S_ .f32 0x41200000#32))

theorem tenth : Ideal.div (Ideal.ofBits .f32 0x3F800000#32) (Ideal.ofBits .f32 0x41200000#32) = ((1 / 10 : ℝ) : EReal) := by
  rw [word_one, word_ten, Ideal.div_coe (by norm_num), ← EReal.coe_mul]; norm_num

theorem spreadWord_eq (i : S_.Idx) : spreadWord i = ((rr : ℝ) : EReal) := by
  show Ideal.div (Ideal.div (Ideal.ofBits .f32 0x3F800000#32) (Ideal.ofBits .f32 0x41200000#32)) (Ideal.ofBits .f32 0x46FFFC00#32) = _
  rw [tenth, word_width, Ideal.div_coe (by norm_num), ← EReal.coe_mul]
  unfold rr; norm_num

theorem keptWord_eq (i : S_.Idx) : keptWord i = ((cc : ℝ) : EReal) := by
  show Ideal.ofBits .f32 0x3F800000#32 - Ideal.div (Ideal.ofBits .f32 0x3F800000#32) (Ideal.ofBits .f32 0x41200000#32) = _
  rw [tenth, word_one, ← EReal.coe_sub]
  unfold cc; norm_num

/-! ## The target -/

/-- Each row's number and token, as the scatter's two index words. -/
def places (t : IVec S4096 32) : IVec S4096x2 32 :=
  concatenate S4096x2 1 [⟨S4096x1, (broadcastInDim S4096x1 ![0] bcast_S4096_S4096x1_0 (select (cmpi .slt (iotaInDim S4096 32 0) (broadcastInDim S4096 ![] bcast_S_S4096 (constantI S_ 32 0#32))) (addi (iotaInDim S4096 32 0) (broadcastInDim S4096 ![] bcast_S_S4096 (constantI S_ 32 4096#32))) (iotaInDim S4096 32 0)))⟩,
    ⟨S4096x1, (broadcastInDim S4096x1 ![0] bcast_S4096_S4096x1_0 (select (cmpi .slt t (broadcastInDim S4096 ![] bcast_S_S4096 (constantI S_ 32 0#32))) (addi t (broadcastInDim S4096 ![] bcast_S_S4096 (constantI S_ 32 32768#32))) t))⟩] concatenates_S4096x1_S4096x1_S4096x2_d1

/-- The target distribution with the token's column set, … -/
def withToken (t : IVec S4096 32) : FVec Ideal S4096x32768 .f32 :=
  Host.scatter scatter_S4096x32768_S4096x2_S4096_n_01_01_1 (fun _ b => b) (broadcastInDim S4096x32768 ![] bcast_S_S4096x32768 spreadWord) (places t)
    (broadcastInDim S4096 ![] bcast_S_S4096 keptWord)

/-- … with the padding's column cleared, … -/
def cleared (t : IVec S4096 32) : FVec Ideal S4096x32768 .f32 :=
  Host.scatter scatter_S4096x32768_S1_S4096_0_1_1_0 (fun _ b => b) (withToken t) (broadcastInDim S1 ![] bcast_S_S1 (constantI S_ 32 0#32))
    (broadcastInDim S4096 ![] bcast_S_S4096 (constant S_ .f32 0x00000000#32))

/-- … and with the padding's rows cleared. -/
def target (t : IVec S4096 32) : FVec Ideal S4096x32768 .f32 :=
  select (broadcastInDim S4096x32768 ![0, 1] bcast_S4096x1_S4096x32768_0_1 (broadcastInDim S4096x1 ![0] bcast_S4096_S4096x1_0 (cmpi .eq t (broadcastInDim S4096 ![] bcast_S_S4096 (constantI S_ 32 0#32)))))
    (broadcastInDim S4096x32768 ![] bcast_S_S4096x32768 (id (constant S_ .f32 0x00000000#32))) (cleared t)

variable (t : IVec S4096 32)

/-- A word below 2³¹ is left alone by the wrapping of negative indices, and reads signed as itself. -/
theorem wrapped (w a : BitVec 32) (h : w.toNat < 32768) : (Scalar.select (IntOp.cmpi .slt w 0#32) a w).toInt = (w.toNat : Int) := by
  rw [Routing.wrap_of_lt w a (by omega), BitVec.toInt_eq_toNat_cond, if_pos (by omega)]

theorem places_row (k : Fin 4096) : (places t (ValueIdx.ix2 k 0)).toInt = k.val := by
  unfold places
  refine (congrArg BitVec.toInt ((concatenate_pair_apply _ _ _ _ _).trans (dif_pos Nat.zero_lt_one))).trans ?_
  have h : (BitVec.ofNat 32 k.val).toNat = k.val := by rw [BitVec.toNat_ofNat]; exact Nat.mod_eq_of_lt (by have := k.isLt; omega)
  refine Eq.trans (congrArg BitVec.toInt ?_) ((wrapped (BitVec.ofNat 32 k.val) (IntOp.addi (BitVec.ofNat 32 k.val) 4096#32) (by rw [h]; have := k.isLt; omega)).trans (by rw [h]))
  exact broadcastInDim_apply _ _ _ _ (ValueIdx.ix1 k) (fun a => by match a with | ⟨0, _⟩ => rfl)

theorem places_token (k : Fin 4096) (h : (t (ValueIdx.ix1 k)).toNat < 32768) : (places t (ValueIdx.ix2 k 1)).toInt = ((t (ValueIdx.ix1 k)).toNat : Int) := by
  unfold places
  refine (congrArg BitVec.toInt ((concatenate_pair_apply _ _ _ _ _).trans (dif_neg (Nat.lt_irrefl 1)))).trans ?_
  refine Eq.trans (congrArg BitVec.toInt ?_) (wrapped (t (ValueIdx.ix1 k)) (IntOp.addi (t (ValueIdx.ix1 k)) 32768#32) h)
  exact broadcastInDim_apply _ _ _ _ (ValueIdx.ix1 k) (fun a => by match a with | ⟨0, _⟩ => rfl)

variable (ht : ∀ k : Fin 4096, (t (ValueIdx.ix1 k)).toNat < 32768)
include ht

/-- The token's column holds the confidence, every other the spread. -/
theorem withToken_at (r : Fin 4096) (j : Fin 32768) :
    withToken t (ValueIdx.ix2 r j) = ((if j.val = (t (ValueIdx.ix1 r)).toNat then cc else rr : ℝ) : EReal) := by
  have land : ∀ k : Fin 4096, scatter_S4096x32768_S4096x2_S4096_n_01_01_1.resultIdx? (ValueIdx.ix1 k) (places t) = some (ValueIdx.ix2 r j)
      ↔ k = r ∧ j.val = (t (ValueIdx.ix1 k)).toNat := fun k => by
    rw [lands_at, places_row, places_token t k (ht k)]
    constructor
    · rintro ⟨a, b⟩; exact ⟨Fin.ext (by omega), by omega⟩
    · rintro ⟨rfl, b⟩; exact ⟨rfl, by omega⟩
  by_cases h : j.val = (t (ValueIdx.ix1 r)).toNat
  · rw [if_pos h]
    exact Routing.scatter_set_hit _ _ _ _ _ ((cc : ℝ) : EReal) (fun _ _ => (ValueIdx.broadcastInDim_scalar_apply _ _ _).trans (keptWord_eq _)) (ValueIdx.ix1 r) ((land r).2 ⟨rfl, h⟩)
  · rw [if_neg h]
    refine (Routing.scatter_set_miss _ _ _ _ _ fun k hk => ?_).trans ((ValueIdx.broadcastInDim_scalar_apply _ _ _).trans (spreadWord_eq _))
    rw [show k = ValueIdx.ix1 (k 0) from ValueIdx.eq_ix1 k] at hk
    obtain ⟨a, b⟩ := (land _).1 hk
    exact h (a ▸ b)

theorem cleared_at (r : Fin 4096) (j : Fin 32768) :
    cleared t (ValueIdx.ix2 r j) = ((if j.val = 0 then 0 else if j.val = (t (ValueIdx.ix1 r)).toNat then cc else rr : ℝ) : EReal) := by
  by_cases h : j.val = 0
  · rw [if_pos h]
    exact Routing.scatter_set_hit _ _ _ _ _ ((0 : ℝ) : EReal) (fun _ _ => (ValueIdx.broadcastInDim_scalar_apply _ _ _).trans Ideal.ofBits_zero_f32) (ValueIdx.ix1 r)
      ((first_column_at r _ rfl r j).2 ⟨rfl, h⟩)
  · rw [if_neg h]
    refine (Routing.scatter_set_miss _ _ _ _ _ fun k hk => ?_).trans (withToken_at t ht r j)
    rw [show k = ValueIdx.ix1 (k 0) from ValueIdx.eq_ix1 k] at hk
    exact h ((first_column_at _ _ rfl r j).1 hk).2

/-- The target distribution. -/
theorem target_at (r : Fin 4096) (j : Fin 32768) :
    target t (ValueIdx.ix2 r j) = ((if (t (ValueIdx.ix1 r)).toNat = 0 ∨ j.val = 0 then 0 else if j.val = (t (ValueIdx.ix1 r)).toNat then cc else rr : ℝ) : EReal) := by
  have hm : broadcastInDim S4096x32768 ![0, 1] bcast_S4096x1_S4096x32768_0_1 (broadcastInDim S4096x1 ![0] bcast_S4096_S4096x1_0
      (cmpi .eq t (broadcastInDim S4096 ![] bcast_S_S4096 (constantI S_ 32 0#32)))) (ValueIdx.ix2 r j) = IntOp.cmpi .eq (t (ValueIdx.ix1 r)) 0#32 := by
    refine (broadcastInDim_apply _ _ _ _ (ValueIdx.ix2 r 0) (fun a => by match a with | ⟨0, _⟩ => rfl | ⟨1, _⟩ => rfl)).trans ?_
    exact broadcastInDim_apply _ _ _ _ (ValueIdx.ix1 r) (fun a => by match a with | ⟨0, _⟩ => rfl)
  show Scalar.select (broadcastInDim S4096x32768 ![0, 1] bcast_S4096x1_S4096x32768_0_1 (broadcastInDim S4096x1 ![0] bcast_S4096_S4096x1_0
      (cmpi .eq t (broadcastInDim S4096 ![] bcast_S_S4096 (constantI S_ 32 0#32)))) (ValueIdx.ix2 r j)) (Ideal.ofBits .f32 0x00000000#32) (cleared t (ValueIdx.ix2 r j)) = _
  rw [hm, cleared_at t ht, Ideal.ofBits_zero_f32]
  by_cases h : t (ValueIdx.ix1 r) = 0#32
  · rw [if_pos (Or.inl (by rw [h]; rfl)), h]; rfl
  · have h' : (t (ValueIdx.ix1 r)).toNat ≠ 0 := fun e => h (BitVec.eq_of_toNat_eq (by rw [e]; rfl))
    have e : (t (ValueIdx.ix1 r) == 0#32) = false := by simpa using h
    simp only [IntOp.cmpi, e, h', false_or]
    rfl

end Cert.Proof.Ref

end
-- ==== Proof.RefValue.lean ====
/-
  The idealized reference's result, where the table's entries are real numbers and the tokens name its columns: the sum of the
  rows' terms.
-/
module

public import proofs.«01_k».proof.Proof.Target
public import proofs.«01_k».proof.Proof.Gen.ReferenceIdeal.Run
public import Idealize.ShloMosaic.PureOps.Ideal.Laws

@[expose] public section

noncomputable section

namespace Cert.Proof.Ref

open Cert.ReferenceIdeal Cert.ReferenceIdeal.Gen
open Idealize.ShloMosaic

/-- The divergence's element, of a target probability and a log-probability: `x log x − x p`, its first part zero where `x` is. -/
def divergence (x p : FVec Ideal S4096x32768 .f32) : FVec Ideal S4096x32768 .f32 :=
  subf (select (ori (cmpf .une x (broadcastInDim S4096x32768 ![] bcast_S_S4096x32768 (constant S_ .f32 0x00000000#32))) (cmpf .une x x)) (mulf x (Host.log x))
    (broadcastInDim S4096x32768 ![] bcast_S_S4096x32768 (constant S_ .f32 0x00000000#32))) (mulf x p)

set_option maxRecDepth 8192 in
/-- The reference's result is the total of the divergence from its target. -/
theorem result_eq (m : (ℓ : Loc nD τ sig) → Buf (Elt Ideal) ℓ) (c : Dev nD) :
    Value.res_main_v37 (F := Ideal) m c
      = Host.reduceAdd (divergence (target (m ((c.tc : Thread nD τ).loc main_arg1))) (m ((c.tc : Thread nD τ).loc main_arg0)))
          (constant S_ .f32 0x00000000#32) reducesTo_S4096x32768_S_d0_1 h_S_ := rfl

/-- The element at a nonnegative probability. -/
theorem divergence_at (x p : FVec Ideal S4096x32768 .f32) (i : S4096x32768.Idx) (a b : ℝ) (hx : x i = ((a : ℝ) : EReal)) (hp : p i = ((b : ℝ) : EReal)) (ha : 0 ≤ a) :
    divergence x p i = ((if a = 0 then 0 else a * Real.log a - a * b : ℝ) : EReal) := by
  show Scalar.select (IntOp.ori (Ideal.cmp .une (x i) (Ideal.ofBits .f32 0x00000000#32)) (Ideal.cmp .une (x i) (x i))) (x i * Ideal.log (x i)) (Ideal.ofBits .f32 0x00000000#32)
    - x i * p i = _
  rw [hx, hp, Ideal.ofBits_zero_f32]
  have hself : Ideal.cmp .une ((a : ℝ) : EReal) ((a : ℝ) : EReal) = 0#1 := by simp [Ideal.cmp]
  rw [hself]
  by_cases h : a = 0
  · subst h
    rw [if_pos rfl]
    have e : Ideal.cmp .une ((0 : ℝ) : EReal) 0 = 0#1 := by simp [Ideal.cmp]
    rw [e]
    show (0 : EReal) - ((0 : ℝ) : EReal) * ((b : ℝ) : EReal) = _
    rw [EReal.coe_zero, zero_mul, sub_zero]
  · have e : Ideal.cmp .une ((a : ℝ) : EReal) 0 = 1#1 := by simp [Ideal.cmp, h]
    rw [if_neg h, e, Ideal.log_coe, if_neg (by intro h'; exact h (le_antisymm h' ha))]
    show ((a : ℝ) : EReal) * ((Real.log a : ℝ) : EReal) - ((a : ℝ) : EReal) * ((b : ℝ) : EReal) = _
    push_cast; rfl

variable (t : IVec S4096 32) (x : FVec Ideal S4096x32768 .f32) (p : ℕ → ℕ → ℝ) (tn : ℕ → ℕ)
  (hp : ∀ (r : Fin 4096) (j : Fin 32768), x (ValueIdx.ix2 r j) = ((p r j : ℝ) : EReal))
  (ht : ∀ r : Fin 4096, (t (ValueIdx.ix1 r)).toNat = tn r) (hlt : ∀ r, tn r < 32768)

include hp ht hlt

/-- A row's elements are the row's terms. -/
theorem divergence_entry (r : Fin 4096) (j : Fin 32768) :
    divergence (target t) x (ValueIdx.ix2 r j) = ((if tn r = 0 then 0 else entry (p r) (tn r) j : ℝ) : EReal) := by
  have hr : rr ≠ 0 := by unfold rr; norm_num
  have hr0 : 0 ≤ rr := by unfold rr; norm_num
  have hc : cc ≠ 0 := by unfold cc; norm_num
  have hc0 : 0 ≤ cc := by unfold cc; norm_num
  rw [divergence_at (target t) x (ValueIdx.ix2 r j) _ _ (target_at t (fun k => by rw [ht k]; exact hlt _) r j) (hp r j) (by split_ifs <;> first | exact le_rfl | assumption), ht r]
  unfold entry
  by_cases h : tn r = 0
  · simp [h]
  · by_cases hj : (j : ℕ) = 0
    · simp [h, hj]
    · by_cases hjt : (j : ℕ) = tn r
      · simp only [h, hj, or_self, if_false, if_pos hjt, if_neg hc]
      · simp only [h, hj, or_self, if_false, if_neg hjt, if_neg hr]

/-- The total is the sum of the rows' terms. -/
theorem total_eq (i : S_.Idx) :
    Host.reduceAdd (divergence (target t) x) (constant S_ .f32 0x00000000#32) reducesTo_S4096x32768_S_d0_1 h_S_ i
      = ((∑ r ∈ Finset.range 4096, rowTerm p tn r : ℝ) : EReal) := by
  refine (Ideal.hostReduceAdd_total reducesTo_S4096x32768_S_d0_1 (fun b => b.elim0) _ _ i).trans ?_
  have e : ∑ k : S4096x32768.Idx, divergence (target t) x k = ((∑ r ∈ Finset.range 4096, rowTerm p tn r : ℝ) : EReal) := by
    refine (ValueIdx.sum_idx2 (divergence (target t) x)).trans ?_
    rw [← sum_fin, ← coe_sum]
    refine Finset.sum_congr rfl fun r _ => ?_
    refine (Finset.sum_congr rfl fun j _ => divergence_entry t x p tn hp ht hlt r j).trans ?_
    rw [coe_sum, sum_fin 32768 (fun j => if tn r = 0 then 0 else entry (p r) (tn r) j)]
    unfold rowTerm
    by_cases h : tn r = 0
    · simp [h]
    · simp only [if_neg h]
      rw [row_sum (p r) (tn r) h (hlt r)]
  rw [e]
  show Ideal.ofBits .f32 0x00000000#32 + _ = _
  rw [Ideal.ofBits_zero_f32, zero_add]

end Cert.Proof.Ref

end
-- ==== Proof.Value.lean ====
/-
  The value claim: the idealized kernel's loss is the idealized reference's.
-/
module

public import proofs.«01_k».proof.Defs
public import proofs.«01_k».proof.Proof.Frames
public import proofs.«01_k».proof.Proof.KernelValue
public import proofs.«01_k».proof.Proof.RefValue

@[expose] public section

noncomputable section

namespace Cert.Proof

open Idealize.ShloMosaic Idealize.SL.Sem

/-- From memories that agree on the arguments, where the table is finite and the tokens name its columns, both end with the
    sum of the rows' terms. -/
theorem algebraic : Cert.algebraic_KernelIdeal_ReferenceIdeal_pre_finite_in_vocabulary := by
  intro m g m' g' hpre hargs
  refine ⟨fun c => lossBuf (F := Ideal) m c, ?_, ?_⟩
  · exact (θ_run Cert.KernelIdeal.defs _ _).mono (fun _ h c => ⟨(h.1 c).2.2, (h.1 c).1, (h.1 c).2.1⟩)
      (run_main (F := Ideal) m g (tokens_ok (F := Ideal) m convert_back_ideal fun d i => finite_tokens_below _ _ (hpre d) i))
  · refine (θ_run Cert.ReferenceIdeal.defs _ _).mono (fun r h c => ⟨(h c).1.trans ?_, (h c).2.1, (h c).2.2⟩) (Cert.ReferenceIdeal.Value.run (F := Ideal) m' g')
    obtain ⟨e0, e1⟩ := hargs c
    choose x hx using fun i => entries_real (m (pLoc c)) (m (tLoc c)) (hpre c) i
    let p : ℕ → ℕ → ℝ := fun a b => x (ValueIdx.ix2 (Fin.ofNat 4096 a) (Fin.ofNat 32768 b))
    let tn : ℕ → ℕ := fun a => ((m (tLoc c) : Cert.KernelIdeal.S4096.Idx → BitVec 32) (ValueIdx.ix1 (Fin.ofNat 4096 a))).toNat
    have hlt : ∀ a, tn a < 32768 := fun a => finite_tokens_below _ _ (hpre c) _
    have hk : loss (F := Ideal) m c = _ := loss_eq m c p tn (fun a b => hx _) (fun a => rfl) hlt
    have fin_of : ∀ {n : ℕ} [NeZero n] (a : Fin n), Fin.ofNat n a.val = a := fun a => Fin.ext (Nat.mod_eq_of_lt a.isLt)
    rw [Ref.result_eq, e0, e1]
    funext i
    refine (Ref.total_eq (m (tLoc c)) (m (pLoc c)) p tn (fun a b => ?_) (fun a => ?_) hlt i).trans hk.symm
    · show _ = ((x (ValueIdx.ix2 (Fin.ofNat 4096 a.val) (Fin.ofNat 32768 b.val)) : ℝ) : EReal)
      rw [fin_of, fin_of]; exact hx _
    · show _ = ((m (tLoc c) : Cert.KernelIdeal.S4096.Idx → BitVec 32) (ValueIdx.ix1 (Fin.ofNat 4096 a.val))).toNat
      rw [fin_of]

end Cert.Proof

end
-- ==== Proof.lean ====
/- The certificate's claim: the frames, the named constants, and the loss itself. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Gen.Pre_in_vocabulary
public import proofs.«01_k».proof.Proof.Gen.Pre_finite_in_vocabulary
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_in_vocabulary.Gen.facts,
    Cert.Pre_finite_in_vocabulary.Gen.facts, frame_kernel, frame_ideal, frame_ideal_finite, frame_reference, frame_reference_finite,
    preserves, algebraic⟩

end Cert.Proof

end
